-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rois_in_image [hPre_rois_in_image : Cert.Pre_rois_in_image.Facts] (m : (ℓ : Loc Cert.KernelIdeal.nD Cert.KernelIdeal.τ Cert.KernelIdeal.sig) → Buf (Elt Ideal) ℓ) : Prop :=
  ∀ c : Dev Cert.KernelIdeal.nD,
    (Cert.Pre_rois_in_image.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_rois_in_image.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rois_in_image [hPre_rois_in_image : Cert.Pre_rois_in_image.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rois_in_image.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_rois_in_image.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rois_in_image [hKernelIdeal : Cert.KernelIdeal.Facts] [hPre_rois_in_image : Cert.Pre_rois_in_image.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rois_in_image m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rois_in_image [hReferenceIdeal : Cert.ReferenceIdeal.Facts] [hPre_rois_in_image : Cert.Pre_rois_in_image.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rois_in_image m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_rois_in_image [hKernelIdeal : Cert.KernelIdeal.Facts] [hReferenceIdeal : Cert.ReferenceIdeal.Facts] [hPre_rois_in_image : Cert.Pre_rois_in_image.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rois_in_image m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_rois_in_image : Cert.Pre_rois_in_image.Facts),
    quiescent_Kernel (hKernel := hKernel)
    ∧ quiescent_KernelIdeal (hKernelIdeal := hKernelIdeal)
    ∧ quiescent_KernelIdeal_pre_rois_in_image (hKernelIdeal := hKernelIdeal) (hPre_rois_in_image := hPre_rois_in_image)
    ∧ quiescent_ReferenceIdeal (hReferenceIdeal := hReferenceIdeal)
    ∧ quiescent_ReferenceIdeal_pre_rois_in_image (hReferenceIdeal := hReferenceIdeal) (hPre_rois_in_image := hPre_rois_in_image)
    ∧ preserves_Kernel_KernelIdeal
    ∧ algebraic_KernelIdeal_ReferenceIdeal_pre_rois_in_image (hKernelIdeal := hKernelIdeal) (hReferenceIdeal := hReferenceIdeal) (hPre_rois_in_image := hPre_rois_in_image)
-- ==== Pre_rois_in_image.lean ====
abbrev S2x64x64x256 : Shape := ⟨4, ![2, 64, 64, 256]⟩
abbrev S2x1000x5 : Shape := ⟨3, ![2, 1000, 5]⟩
abbrev S2x1000x4 : Shape := ⟨3, ![2, 1000, 4]⟩
abbrev S_ : Shape := ⟨0, ![]⟩

class Facts : Prop where
  slices_S2x1000x5_S2x1000x4_0_0_0 : S2x1000x5.Slices ![0, 0, 0] S2x1000x4
  bcast_S_S2x64x64x256 : S_.BroadcastsInDim S2x64x64x256 (![] : Fin 0 → Fin S2x64x64x256.rank)
  bcast_S_S2x1000x4 : S_.BroadcastsInDim S2x1000x4 (![] : Fin 0 → Fin S2x1000x4.rank)

variable [Facts]

def fn {F : FTy → Type} [FloatOps F] (main_arg0 : FVec F S2x64x64x256 .f32) (main_arg1 : FVec F S2x1000x5 .f32) : IVec S2x64x64x256 1 × IVec S2x1000x4 1 :=
  let main_v0 : FVec F S2x1000x4 .f32 := (extractStridedSlice S2x1000x4 ![0, 0, 0] · slices_S2x1000x5_S2x1000x4_0_0_0) main_arg1
  let main_v1 : FVec F S2x64x64x256 .f32 := Host.absf main_arg0
  let main_cst : FVec F S_ .f32 := constant S_ .f32 0x7F800000#32
  let main_v2 : FVec F S2x64x64x256 .f32 := broadcastInDim S2x64x64x256 ![] bcast_S_S2x64x64x256 main_cst
  let main_v3 : IVec S2x64x64x256 1 := cmpf .olt main_v1 main_v2
  let main_cst_0 : FVec F S_ .f32 := constant S_ .f32 0x00000000#32
  let main_v4 : FVec F S2x1000x4 .f32 := broadcastInDim S2x1000x4 ![] bcast_S_S2x1000x4 main_cst_0
  let main_v5 : IVec S2x1000x4 1 := cmpf .oge main_v0 main_v4
  let main_cst_1 : FVec F S_ .f32 := constant S_ .f32 0x44800000#32
  let main_v6 : FVec F S2x1000x4 .f32 := broadcastInDim S2x1000x4 ![] bcast_S_S2x1000x4 main_cst_1
  let main_v7 : IVec S2x1000x4 1 := cmpf .ole main_v0 main_v6
  let main_v8 : IVec S2x1000x4 1 := andi main_v5 main_v7
  (main_v3, main_v8)
-- ==== Kernel.lean ====
abbrev S2x64x64x256 : Shape := ⟨4, ![2, 64, 64, 256]⟩
abbrev S2x1000x5 : Shape := ⟨3, ![2, 1000, 5]⟩
abbrev S8x4096 : Shape := ⟨2, ![8, 4096]⟩
abbrev S2x4096x256 : Shape := ⟨3, ![2, 4096, 256]⟩
abbrev S7 : Shape := ⟨1, ![7]⟩
abbrev S_ : Shape := ⟨0, ![]⟩
abbrev S1x7 : Shape := ⟨2, ![1, 7]⟩
abbrev S200x7 : Shape := ⟨2, ![200, 7]⟩
abbrev S1400 : Shape := ⟨1, ![1400]⟩
abbrev S200 : Shape := ⟨1, ![200]⟩
abbrev S1 : Shape := ⟨1, ![1]⟩
abbrev S8 : Shape := ⟨1, ![8]⟩
abbrev S1x8 : Shape := ⟨2, ![1, 8]⟩
abbrev S200x8 : Shape := ⟨2, ![200, 8]⟩
abbrev S1600 : Shape := ⟨1, ![1600]⟩
abbrev S1600x1 : Shape := ⟨2, ![1600, 1]⟩
abbrev S1600x8 : Shape := ⟨2, ![1600, 8]⟩
abbrev S2x1000x7x7x256 : Shape := ⟨5, ![2, 1000, 7, 7, 256]⟩
abbrev S1x4096x256 : Shape := ⟨3, ![1, 4096, 256]⟩
abbrev S1x200x5 : Shape := ⟨3, ![1, 200, 5]⟩
abbrev S1x200x7x7x256 : Shape := ⟨5, ![1, 200, 7, 7, 256]⟩
abbrev S1x4096 : Shape := ⟨2, ![1, 4096]⟩
abbrev S1x128 : Shape := ⟨2, ![1, 128]⟩
abbrev S4096x256 : Shape := ⟨2, ![4096, 256]⟩
abbrev S1x200x1 : Shape := ⟨3, ![1, 200, 1]⟩
abbrev S200x1 : Shape := ⟨2, ![200, 1]⟩
abbrev S200x1x1 : Shape := ⟨3, ![200, 1, 1]⟩
abbrev S200x7x1 : Shape := ⟨3, ![200, 7, 1]⟩
abbrev S1400x1 : Shape := ⟨2, ![1400, 1]⟩
abbrev S200x8x1 : Shape := ⟨3, ![200, 8, 1]⟩
abbrev S56x1 : Shape := ⟨2, ![56, 1]⟩
abbrev S56x1x1 : Shape := ⟨3, ![56, 1, 1]⟩
abbrev S56x8x1 : Shape := ⟨3, ![56, 8, 1]⟩
abbrev S448x1 : Shape := ⟨2, ![448, 1]⟩
abbrev S64x1 : Shape := ⟨2, ![64, 1]⟩
abbrev S8x1x8x1 : Shape := ⟨4, ![8, 1, 8, 1]⟩
abbrev S8x7x8x1 : Shape := ⟨4, ![8, 7, 8, 1]⟩
abbrev S448x4096 : Shape := ⟨2, ![448, 4096]⟩
abbrev S448x128 : Shape := ⟨2, ![448, 128]⟩
abbrev S448x256 : Shape := ⟨2, ![448, 256]⟩
abbrev S8x7x8x256 : Shape := ⟨4, ![8, 7, 8, 256]⟩
abbrev S8x7x7x256 : Shape := ⟨4, ![8, 7, 7, 256]⟩
abbrev S1x8x7x7x256 : Shape := ⟨5, ![1, 8, 7, 7, 256]⟩

abbrev nBuf : Space → Nat
  | .hbm => 68
  | .vmem => 8
  | .smem => 0
  | _ => 0

abbrev bufTy : (tb : Table) → Fin (tcTables nBuf tb) → BufTy
  | .hbm, ⟨0, _⟩ => ⟨S2x64x64x256, .f32⟩
  | .hbm, ⟨1, _⟩ => ⟨S2x1000x5, .f32⟩
  | .hbm, ⟨2, _⟩ => ⟨S8x4096, .f32⟩
  | .hbm, ⟨3, _⟩ => ⟨S2x4096x256, .f32⟩
  | .hbm, ⟨4, _⟩ => ⟨S2x4096x256, .bf16⟩
  | .hbm, ⟨5, _⟩ => ⟨S7, .f32⟩
  | .hbm, ⟨6, _⟩ => ⟨S_, .f32⟩
  | .hbm, ⟨7, _⟩ => ⟨S7, .f32⟩
  | .hbm, ⟨8, _⟩ => ⟨S7, .f32⟩
  | .hbm, ⟨9, _⟩ => ⟨S_, .f32⟩
  | .hbm, ⟨10, _⟩ => ⟨S7, .f32⟩
  | .hbm, ⟨11, _⟩ => ⟨S7, .f32⟩
  | .hbm, ⟨12, _⟩ => ⟨S_, .f32⟩
  | .hbm, ⟨13, _⟩ => ⟨S7, .f32⟩
  | .hbm, ⟨14, _⟩ => ⟨S7, .f32⟩
  | .hbm, ⟨15, _⟩ => ⟨S1x7, .f32⟩
  | .hbm, ⟨16, _⟩ => ⟨S200x7, .f32⟩
  | .hbm, ⟨17, _⟩ => ⟨S1400, .f32⟩
  | .hbm, ⟨18, _⟩ => ⟨S_, .f32⟩
  | .hbm, ⟨19, _⟩ => ⟨S7, .f32⟩
  | .hbm, ⟨20, _⟩ => ⟨S7, .f32⟩
  | .hbm, ⟨21, _⟩ => ⟨S1x7, .f32⟩
  | .hbm, ⟨22, _⟩ => ⟨S200x7, .f32⟩
  | .hbm, ⟨23, _⟩ => ⟨S1400, .f32⟩
  | .hbm, ⟨24, _⟩ => ⟨S_, .f32⟩
  | .hbm, ⟨25, _⟩ => ⟨S200, .f32⟩
  | .hbm, ⟨26, _⟩ => ⟨S_, .f32⟩
  | .hbm, ⟨27, _⟩ => ⟨S1, .f32⟩
  | .hbm, ⟨28, _⟩ => ⟨S_, .f32⟩
  | .hbm, ⟨29, _⟩ => ⟨S7, .f32⟩
  | .hbm, ⟨30, _⟩ => ⟨S7, .f32⟩
  | .hbm, ⟨31, _⟩ => ⟨S_, .f32⟩
  | .hbm, ⟨32, _⟩ => ⟨S7, .f32⟩
  | .hbm, ⟨33, _⟩ => ⟨S7, .f32⟩
  | .hbm, ⟨34, _⟩ => ⟨S8, .f32⟩
  | .hbm, ⟨35, _⟩ => ⟨S1x8, .f32⟩
  | .hbm, ⟨36, _⟩ => ⟨S200x8, .f32⟩
  | .hbm, ⟨37, _⟩ => ⟨S1600, .f32⟩
  | .hbm, ⟨38, _⟩ => ⟨S_, .f32⟩
  | .hbm, ⟨39, _⟩ => ⟨S7, .f32⟩
  | .hbm, ⟨40, _⟩ => ⟨S7, .f32⟩
  | .hbm, ⟨41, _⟩ => ⟨S8, .f32⟩
  | .hbm, ⟨42, _⟩ => ⟨S1x8, .f32⟩
  | .hbm, ⟨43, _⟩ => ⟨S200x8, .f32⟩
  | .hbm, ⟨44, _⟩ => ⟨S1600, .f32⟩
  | .hbm, ⟨45, _⟩ => ⟨S_, .f32⟩
  | .hbm, ⟨46, _⟩ => ⟨S7, .f32⟩
  | .hbm, ⟨47, _⟩ => ⟨S_, .f32⟩
  | .hbm, ⟨48, _⟩ => ⟨S1, .f32⟩
  | .hbm, ⟨49, _⟩ => ⟨S1, .f32⟩
  | .hbm, ⟨50, _⟩ => ⟨S8, .f32⟩
  | .hbm, ⟨51, _⟩ => ⟨S1x8, .f32⟩
  | .hbm, ⟨52, _⟩ => ⟨S200x8, .f32⟩
  | .hbm, ⟨53, _⟩ => ⟨S1600, .f32⟩
  | .hbm, ⟨54, _⟩ => ⟨S_, .f32⟩
  | .hbm, ⟨55, _⟩ => ⟨S1600, .f32⟩
  | .hbm, ⟨56, _⟩ => ⟨S1600, .f32⟩
  | .hbm, ⟨57, _⟩ => ⟨S1600, .f32⟩
  | .hbm, ⟨58, _⟩ => ⟨S1600x1, .f32⟩
  | .hbm, ⟨59, _⟩ => ⟨S1600x1, .f32⟩
  | .hbm, ⟨60, _⟩ => ⟨S1600x1, .f32⟩
  | .hbm, ⟨61, _⟩ => ⟨S1600x1, .f32⟩
  | .hbm, ⟨62, _⟩ => ⟨S1600x1, .f32⟩
  | .hbm, ⟨63, _⟩ => ⟨S1600x1, .f32⟩
  | .hbm, ⟨64, _⟩ => ⟨S1600x1, .f32⟩
  | .hbm, ⟨65, _⟩ => ⟨S1600x1, .f32⟩
  | .hbm, ⟨66, _⟩ => ⟨S1600x8, .f32⟩
  | .hbm, ⟨67, _⟩ => ⟨S2x1000x7x7x256, .f32⟩
  | .local _ .vmem, ⟨0, _⟩ => ⟨S1x4096x256, .bf16⟩
  | .local _ .vmem, ⟨1, _⟩ => ⟨S1x4096x256, .bf16⟩
  | .local _ .vmem, ⟨2, _⟩ => ⟨S1x200x5, .f32⟩
  | .local _ .vmem, ⟨3, _⟩ => ⟨S1x200x5, .f32⟩
  | .local _ .vmem, ⟨4, _⟩ => ⟨S1600x8, .f32⟩
  | .local _ .vmem, ⟨5, _⟩ => ⟨S8x4096, .f32⟩
  | .local _ .vmem, ⟨6, _⟩ => ⟨S1x200x7x7x256, .f32⟩
  | .local _ .vmem, ⟨7, _⟩ => ⟨S1x200x7x7x256, .f32⟩
  | _, _ => ⟨S2x64x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_cst_0 : Ref sig .tc := ⟨.hbm, 6, rfl⟩
abbrev main_call0_v3 : Ref sig .tc := ⟨.hbm, 7, rfl⟩
abbrev main_call0_v4 : Ref sig .tc := ⟨.hbm, 8, rfl⟩
abbrev main_call0_cst_1 : Ref sig .tc := ⟨.hbm, 9, rfl⟩
abbrev main_call0_v5 : Ref sig .tc := ⟨.hbm, 10, rfl⟩
abbrev main_call0_v6 : Ref sig .tc := ⟨.hbm, 11, rfl⟩
abbrev main_call0_cst_2 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_cst_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_call0_cst_4 : Ref sig .tc := ⟨.hbm, 24, rfl⟩
abbrev main_call0_v17 : Ref sig .tc := ⟨.hbm, 25, rfl⟩
abbrev main_call0_cst_5 : Ref sig .tc := ⟨.hbm, 26, rfl⟩
abbrev main_call0_v18 : Ref sig .tc := ⟨.hbm, 27, rfl⟩
abbrev main_call0_cst_6 : Ref sig .tc := ⟨.hbm, 28, rfl⟩
abbrev main_call0_v19 : Ref sig .tc := ⟨.hbm, 29, rfl⟩
abbrev main_call0_v20 : Ref sig .tc := ⟨.hbm, 30, rfl⟩
abbrev main_call0_cst_7 : Ref sig .tc := ⟨.hbm, 31, rfl⟩
abbrev main_call0_v21 : Ref sig .tc := ⟨.hbm, 32, rfl⟩
abbrev main_call0_v22 : Ref sig .tc := ⟨.hbm, 33, rfl⟩
abbrev main_call0_v23 : Ref sig .tc := ⟨.hbm, 34, rfl⟩
abbrev main_call0_v24 : Ref sig .tc := ⟨.hbm, 35, rfl⟩
abbrev main_call0_v25 : Ref sig .tc := ⟨.hbm, 36, rfl⟩
abbrev main_call0_v26 : Ref sig .tc := ⟨.hbm, 37, rfl⟩
abbrev main_call0_cst_8 : Ref sig .tc := ⟨.hbm, 38, rfl⟩
abbrev main_call0_v27 : Ref sig .tc := ⟨.hbm, 39, rfl⟩
abbrev main_call0_v28 : Ref sig .tc := ⟨.hbm, 40, rfl⟩
abbrev main_call0_v29 : Ref sig .tc := ⟨.hbm, 41, rfl⟩
abbrev main_call0_v30 : Ref sig .tc := ⟨.hbm, 42, rfl⟩
abbrev main_call0_v31 : Ref sig .tc := ⟨.hbm, 43, rfl⟩
abbrev main_call0_v32 : Ref sig .tc := ⟨.hbm, 44, rfl⟩
abbrev main_call0_cst_9 : Ref sig .tc := ⟨.hbm, 45, rfl⟩
abbrev main_call0_v33 : Ref sig .tc := ⟨.hbm, 46, rfl⟩
abbrev main_call0_cst_10 : Ref sig .tc := ⟨.hbm, 47, rfl⟩
abbrev main_call0_v34 : Ref sig .tc := ⟨.hbm, 48, rfl⟩
abbrev main_call0_v35 : Ref sig .tc := ⟨.hbm, 49, rfl⟩
abbrev main_call0_v36 : Ref sig .tc := ⟨.hbm, 50, rfl⟩
abbrev main_call0_v37 : Ref sig .tc := ⟨.hbm, 51, rfl⟩
abbrev main_call0_v38 : Ref sig .tc := ⟨.hbm, 52, rfl⟩
abbrev main_call0_v39 : Ref sig .tc := ⟨.hbm, 53, rfl⟩
abbrev main_call0_cst_11 : Ref sig .tc := ⟨.hbm, 54, rfl⟩
abbrev main_call0_v40 : Ref sig .tc := ⟨.hbm, 55, rfl⟩
abbrev main_call0_v41 : Ref sig .tc := ⟨.hbm, 56, rfl⟩
abbrev main_call0_v42 : Ref sig .tc := ⟨.hbm, 57, rfl⟩
abbrev main_call0_v43 : Ref sig .tc := ⟨.hbm, 58, rfl⟩
abbrev main_call0_v44 : Ref sig .tc := ⟨.hbm, 59, rfl⟩
abbrev main_call0_v45 : Ref sig .tc := ⟨.hbm, 60, rfl⟩
abbrev main_call0_v46 : Ref sig .tc := ⟨.hbm, 61, rfl⟩
abbrev main_call0_v47 : Ref sig .tc := ⟨.hbm, 62, rfl⟩
abbrev main_call0_v48 : Ref sig .tc := ⟨.hbm, 63, rfl⟩
abbrev main_call0_v49 : Ref sig .tc := ⟨.hbm, 64, rfl⟩
abbrev main_call0_v50 : Ref sig .tc := ⟨.hbm, 65, rfl⟩
abbrev main_call0_v51 : Ref sig .tc := ⟨.hbm, 66, rfl⟩
abbrev main_v0 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x200x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1600x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x200x7x7x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S2x64x64x256 : Shape := ⟨4, ![2, 64, 64, 256]⟩
abbrev S2x1000x5 : Shape := ⟨3, ![2, 1000, 5]⟩
abbrev S2x1000x4 : Shape := ⟨3, ![2, 1000, 4]⟩
abbrev S_ : Shape := ⟨0, ![]⟩
abbrev S2 : Shape := ⟨1, ![2]⟩
abbrev S2x1000 : Shape := ⟨2, ![2, 1000]⟩
abbrev S2000 : Shape := ⟨1, ![2000]⟩
abbrev S2000x4 : Shape := ⟨2, ![2000, 4]⟩
abbrev S2000x1 : Shape := ⟨2, ![2000, 1]⟩
abbrev S7 : Shape := ⟨1, ![7]⟩
abbrev S1x7 : Shape := ⟨2, ![1, 7]⟩
abbrev S2000x7 : Shape := ⟨2, ![2000, 7]⟩
abbrev S2000x1x1 : Shape := ⟨3, ![2000, 1, 1]⟩
abbrev S2000x7x1 : Shape := ⟨3, ![2000, 7, 1]⟩
abbrev S2000x1x7 : Shape := ⟨3, ![2000, 1, 7]⟩
abbrev S2000x7x7 : Shape := ⟨3, ![2000, 7, 7]⟩
abbrev S2000x7x7x1 : Shape := ⟨4, ![2000, 7, 7, 1]⟩
abbrev S2000x7x7x3 : Shape := ⟨4, ![2000, 7, 7, 3]⟩
abbrev S2000x7x7x256 : Shape := ⟨4, ![2000, 7, 7, 256]⟩
abbrev S2000x1x7x1 : Shape := ⟨4, ![2000, 1, 7, 1]⟩
abbrev S2000x7x1x1 : Shape := ⟨4, ![2000, 7, 1, 1]⟩
abbrev S2x1000x7x7x256 : Shape := ⟨5, ![2, 1000, 7, 7, 256]⟩

abbrev nBuf : Space → Nat
  | .hbm => 256
  | .vmem => 0
  | .smem => 0
  | _ => 0

abbrev hbmTy0_0 (i : Nat) : BufTy := match i % 128 with
  | 0 => ⟨S2x64x64x256, .f32⟩
  | 1 => ⟨S2x1000x5, .f32⟩
  | 2 => ⟨S2x1000x4, .f32⟩
  | 3 => ⟨S_, .f32⟩
  | 4 => ⟨S2x1000x4, .f32⟩
  | 5 => ⟨S2x1000x4, .f32⟩
  | 6 => ⟨S2, .i32⟩
  | 7 => ⟨S2x1000, .i32⟩
  | 8 => ⟨S2000, .i32⟩
  | 9 => ⟨S2000x4, .f32⟩
  | 10 => ⟨S2000x1, .f32⟩
  | 11 => ⟨S2000, .f32⟩
  | 12 => ⟨S2000x1, .f32⟩
  | 13 => ⟨S2000, .f32⟩
  | 14 => ⟨S2000x1, .f32⟩
  | 15 => ⟨S2000, .f32⟩
  | 16 => ⟨S2000x1, .f32⟩
  | 17 => ⟨S2000, .f32⟩
  | 18 => ⟨S7, .f32⟩
  | 19 => ⟨S_, .f32⟩
  | 20 => ⟨S7, .f32⟩
  | 21 => ⟨S7, .f32⟩
  | 22 => ⟨S7, .f32⟩
  | 23 => ⟨S_, .f32⟩
  | 24 => ⟨S7, .f32⟩
  | 25 => ⟨S7, .f32⟩
  | 26 => ⟨S2000x1, .f32⟩
  | 27 => ⟨S2000, .f32⟩
  | 28 => ⟨S2000x1, .f32⟩
  | 29 => ⟨S1x7, .f32⟩
  | 30 => ⟨S2000x7, .f32⟩
  | 31 => ⟨S2000x7, .f32⟩
  | 32 => ⟨S2000x7, .f32⟩
  | 33 => ⟨S2000x7, .f32⟩
  | 34 => ⟨S2000x7, .f32⟩
  | 35 => ⟨S_, .f32⟩
  | 36 => ⟨S2000x7, .f32⟩
  | 37 => ⟨S2000x7, .f32⟩
  | 38 => ⟨S2000x1, .f32⟩
  | 39 => ⟨S2000, .f32⟩
  | 40 => ⟨S2000x1, .f32⟩
  | 41 => ⟨S1x7, .f32⟩
  | 42 => ⟨S2000x7, .f32⟩
  | 43 => ⟨S2000x7, .f32⟩
  | 44 => ⟨S2000x7, .f32⟩
  | 45 => ⟨S2000x7, .f32⟩
  | 46 => ⟨S2000x7, .f32⟩
  | 47 => ⟨S_, .f32⟩
  | 48 => ⟨S2000x7, .f32⟩
  | 49 => ⟨S2000x7, .f32⟩
  | 50 => ⟨S_, .f32⟩
  | 51 => ⟨S2000x7, .f32⟩
  | 52 => ⟨S2000x7, .i1⟩
  | 53 => ⟨S_, .f32⟩
  | 54 => ⟨S2000x7, .f32⟩
  | 55 => ⟨S2000x7, .i1⟩
  | 56 => ⟨S2000x7, .i1⟩
  | 57 => ⟨S_, .f32⟩
  | 58 => ⟨S2000x7, .f32⟩
  | 59 => ⟨S2000x7, .i1⟩
  | 60 => ⟨S_, .f32⟩
  | 61 => ⟨S2000x7, .f32⟩
  | 62 => ⟨S2000x7, .i1⟩
  | 63 => ⟨S2000x7, .i1⟩
  | 64 => ⟨S2000x7, .f32⟩
  | 65 => ⟨S2000x7, .f32⟩
  | 66 => ⟨S2000x7, .f32⟩
  | 67 => ⟨S2000x7, .f32⟩
  | 68 => ⟨S_, .i32⟩
  | 69 => ⟨S_, .i32⟩
  | 70 => ⟨S_, .f32⟩
  | 71 => ⟨S2000x7, .f32⟩
  | 72 => ⟨S2000x7, .f32⟩
  | 73 => ⟨S_, .f32⟩
  | 74 => ⟨S2000x7, .f32⟩
  | 75 => ⟨S2000x7, .f32⟩
  | 76 => ⟨S2000x7, .i32⟩
  | 77 => ⟨S2000x7, .f32⟩
  | 78 => ⟨S_, .i32⟩
  | 79 => ⟨S_, .i32⟩
  | 80 => ⟨S_, .f32⟩
  | 81 => ⟨S2000x7, .f32⟩
  | 82 => ⟨S2000x7, .f32⟩
  | 83 => ⟨S_, .f32⟩
  | 84 => ⟨S2000x7, .f32⟩
  | 85 => ⟨S2000x7, .f32⟩
  | 86 => ⟨S2000x7, .i32⟩
  | 87 => ⟨S_, .i32⟩
  | 88 => ⟨S_, .i32⟩
  | 89 => ⟨S_, .f32⟩
  | 90 => ⟨S2000x7, .f32⟩
  | 91 => ⟨S2000x7, .f32⟩
  | 92 => ⟨S_, .f32⟩
  | 93 => ⟨S2000x7, .f32⟩
  | 94 => ⟨S2000x7, .f32⟩
  | 95 => ⟨S2000x7, .i32⟩
  | 96 => ⟨S2000x7, .f32⟩
  | 97 => ⟨S_, .i32⟩
  | 98 => ⟨S_, .i32⟩
  | 99 => ⟨S_, .f32⟩
  | 100 => ⟨S2000x7, .f32⟩
  | 101 => ⟨S2000x7, .f32⟩
  | 102 => ⟨S_, .f32⟩
  | 103 => ⟨S2000x7, .f32⟩
  | 104 => ⟨S2000x7, .f32⟩
  | 105 => ⟨S2000x7, .i32⟩
  | 106 => ⟨S2000x1x1, .i32⟩
  | 107 => ⟨S2000x7x1, .i32⟩
  | 108 => ⟨S2000x1x7, .i32⟩
  | 109 => ⟨S_, .i32⟩
  | 110 => ⟨S2000x1x1, .i32⟩
  | 111 => ⟨S2000x1x1, .i1⟩
  | 112 => ⟨S_, .i32⟩
  | 113 => ⟨S2000x1x1, .i32⟩
  | 114 => ⟨S2000x1x1, .i32⟩
  | 115 => ⟨S2000x1x1, .i32⟩
  | 116 => ⟨S_, .i32⟩
  | 117 => ⟨S2000x7x1, .i32⟩
  | 118 => ⟨S2000x7x1, .i1⟩
  | 119 => ⟨S_, .i32⟩
  | 120 => ⟨S2000x7x1, .i32⟩
  | 121 => ⟨S2000x7x1, .i32⟩
  | 122 => ⟨S2000x7x1, .i32⟩
  | 123 => ⟨S_, .i32⟩
  | 124 => ⟨S2000x1x7, .i32⟩
  | 125 => ⟨S2000x1x7, .i1⟩
  | 126 => ⟨S_, .i32⟩
  | 127 => ⟨S2000x1x7, .i32⟩
  | _ => ⟨S2x64x64x256, .f32⟩

abbrev hbmTy0_1 (i : Nat) : BufTy := match i % 128 with
  | 0 => ⟨S2000x1x7, .i32⟩
  | 1 => ⟨S2000x1x7, .i32⟩
  | 2 => ⟨S2000x7x7, .i32⟩
  | 3 => ⟨S2000x7x7, .i32⟩
  | 4 => ⟨S2000x7x7, .i32⟩
  | 5 => ⟨S2000x7x7x1, .i32⟩
  | 6 => ⟨S2000x7x7x1, .i32⟩
  | 7 => ⟨S2000x7x7x1, .i32⟩
  | 8 => ⟨S2000x7x7x3, .i32⟩
  | 9 => ⟨S2000x7x7x256, .f32⟩
  | 10 => ⟨S2000x7x1, .i32⟩
  | 11 => ⟨S2000x1x7, .i32⟩
  | 12 => ⟨S_, .i32⟩
  | 13 => ⟨S2000x1x1, .i32⟩
  | 14 => ⟨S2000x1x1, .i1⟩
  | 15 => ⟨S_, .i32⟩
  | 16 => ⟨S2000x1x1, .i32⟩
  | 17 => ⟨S2000x1x1, .i32⟩
  | 18 => ⟨S2000x1x1, .i32⟩
  | 19 => ⟨S_, .i32⟩
  | 20 => ⟨S2000x7x1, .i32⟩
  | 21 => ⟨S2000x7x1, .i1⟩
  | 22 => ⟨S_, .i32⟩
  | 23 => ⟨S2000x7x1, .i32⟩
  | 24 => ⟨S2000x7x1, .i32⟩
  | 25 => ⟨S2000x7x1, .i32⟩
  | 26 => ⟨S_, .i32⟩
  | 27 => ⟨S2000x1x7, .i32⟩
  | 28 => ⟨S2000x1x7, .i1⟩
  | 29 => ⟨S_, .i32⟩
  | 30 => ⟨S2000x1x7, .i32⟩
  | 31 => ⟨S2000x1x7, .i32⟩
  | 32 => ⟨S2000x1x7, .i32⟩
  | 33 => ⟨S2000x7x7, .i32⟩
  | 34 => ⟨S2000x7x7, .i32⟩
  | 35 => ⟨S2000x7x7, .i32⟩
  | 36 => ⟨S2000x7x7x1, .i32⟩
  | 37 => ⟨S2000x7x7x1, .i32⟩
  | 38 => ⟨S2000x7x7x1, .i32⟩
  | 39 => ⟨S2000x7x7x3, .i32⟩
  | 40 => ⟨S2000x7x7x256, .f32⟩
  | 41 => ⟨S2000x7x1, .i32⟩
  | 42 => ⟨S2000x1x7, .i32⟩
  | 43 => ⟨S_, .i32⟩
  | 44 => ⟨S2000x1x1, .i32⟩
  | 45 => ⟨S2000x1x1, .i1⟩
  | 46 => ⟨S_, .i32⟩
  | 47 => ⟨S2000x1x1, .i32⟩
  | 48 => ⟨S2000x1x1, .i32⟩
  | 49 => ⟨S2000x1x1, .i32⟩
  | 50 => ⟨S_, .i32⟩
  | 51 => ⟨S2000x7x1, .i32⟩
  | 52 => ⟨S2000x7x1, .i1⟩
  | 53 => ⟨S_, .i32⟩
  | 54 => ⟨S2000x7x1, .i32⟩
  | 55 => ⟨S2000x7x1, .i32⟩
  | 56 => ⟨S2000x7x1, .i32⟩
  | 57 => ⟨S_, .i32⟩
  | 58 => ⟨S2000x1x7, .i32⟩
  | 59 => ⟨S2000x1x7, .i1⟩
  | 60 => ⟨S_, .i32⟩
  | 61 => ⟨S2000x1x7, .i32⟩
  | 62 => ⟨S2000x1x7, .i32⟩
  | 63 => ⟨S2000x1x7, .i32⟩
  | 64 => ⟨S2000x7x7, .i32⟩
  | 65 => ⟨S2000x7x7, .i32⟩
  | 66 => ⟨S2000x7x7, .i32⟩
  | 67 => ⟨S2000x7x7x1, .i32⟩
  | 68 => ⟨S2000x7x7x1, .i32⟩
  | 69 => ⟨S2000x7x7x1, .i32⟩
  | 70 => ⟨S2000x7x7x3, .i32⟩
  | 71 => ⟨S2000x7x7x256, .f32⟩
  | 72 => ⟨S2000x7x1, .i32⟩
  | 73 => ⟨S2000x1x7, .i32⟩
  | 74 => ⟨S_, .i32⟩
  | 75 => ⟨S2000x1x1, .i32⟩
  | 76 => ⟨S2000x1x1, .i1⟩
  | 77 => ⟨S_, .i32⟩
  | 78 => ⟨S2000x1x1, .i32⟩
  | 79 => ⟨S2000x1x1, .i32⟩
  | 80 => ⟨S2000x1x1, .i32⟩
  | 81 => ⟨S_, .i32⟩
  | 82 => ⟨S2000x7x1, .i32⟩
  | 83 => ⟨S2000x7x1, .i1⟩
  | 84 => ⟨S_, .i32⟩
  | 85 => ⟨S2000x7x1, .i32⟩
  | 86 => ⟨S2000x7x1, .i32⟩
  | 87 => ⟨S2000x7x1, .i32⟩
  | 88 => ⟨S_, .i32⟩
  | 89 => ⟨S2000x1x7, .i32⟩
  | 90 => ⟨S2000x1x7, .i1⟩
  | 91 => ⟨S_, .i32⟩
  | 92 => ⟨S2000x1x7, .i32⟩
  | 93 => ⟨S2000x1x7, .i32⟩
  | 94 => ⟨S2000x1x7, .i32⟩
  | 95 => ⟨S2000x7x7, .i32⟩
  | 96 => ⟨S2000x7x7, .i32⟩
  | 97 => ⟨S2000x7x7, .i32⟩
  | 98 => ⟨S2000x7x7x1, .i32⟩
  | 99 => ⟨S2000x7x7x1, .i32⟩
  | 100 => ⟨S2000x7x7x1, .i32⟩
  | 101 => ⟨S2000x7x7x3, .i32⟩
  | 102 => ⟨S2000x7x7x256, .f32⟩
  | 103 => ⟨S2000x1x7x1, .f32⟩
  | 104 => ⟨S2000x7x1x1, .f32⟩
  | 105 => ⟨S2000x7x7x256, .f32⟩
  | 106 => ⟨S2000x7x7x256, .f32⟩
  | 107 => ⟨S2000x7x7x256, .f32⟩
  | 108 => ⟨S2000x7x7x256, .f32⟩
  | 109 => ⟨S2000x7x7x256, .f32⟩
  | 110 => ⟨S2000x7x7x256, .f32⟩
  | 111 => ⟨S2000x7x7x256, .f32⟩
  | 112 => ⟨S2000x7x7x256, .f32⟩
  | 113 => ⟨S2000x7x7x256, .f32⟩
  | 114 => ⟨S2000x7x7x256, .f32⟩
  | 115 => ⟨S2000x7x7x256, .f32⟩
  | 116 => ⟨S2000x7x7x256, .f32⟩
  | 117 => ⟨S2000x7x1, .i1⟩
  | 118 => ⟨S2000x1x7, .i1⟩
  | 119 => ⟨S2000x7x7, .i1⟩
  | 120 => ⟨S2000x7x7, .i1⟩
  | 121 => ⟨S2000x7x7, .i1⟩
  | 122 => ⟨S2000x7x7x1, .i1⟩
  | 123 => ⟨S_, .f32⟩
  | 124 => ⟨S2000x7x7x256, .i1⟩
  | 125 => ⟨S2000x7x7x256, .f32⟩
  | 126 => ⟨S2000x7x7x256, .f32⟩
  | 127 => ⟨S2x1000x7x7x256, .f32⟩
  | _ => ⟨S2x64x64x256, .f32⟩

abbrev hbmTy (i : Nat) : BufTy := match i / 128 with
  | 0 => hbmTy0_0 i
  | 1 => hbmTy0_1 i
  | _ => ⟨S2x64x64x256, .f32⟩

abbrev bufTy : (tb : Table) → Fin (tcTables nBuf tb) → BufTy
  | .hbm, ⟨i, _⟩ => hbmTy i
  | _, _ => ⟨S2x64x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_2 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst_3 : Ref sig .tc := ⟨.hbm, 47, rfl⟩
abbrev main_v41 : Ref sig .tc := ⟨.hbm, 48, rfl⟩
abbrev main_v42 : Ref sig .tc := ⟨.hbm, 49, rfl⟩
abbrev main_cst_4 : Ref sig .tc := ⟨.hbm, 50, rfl⟩
abbrev main_v43 : Ref sig .tc := ⟨.hbm, 51, rfl⟩
abbrev main_v44 : Ref sig .tc := ⟨.hbm, 52, rfl⟩
abbrev main_cst_5 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_6 : Ref sig .tc := ⟨.hbm, 57, rfl⟩
abbrev main_v48 : Ref sig .tc := ⟨.hbm, 58, rfl⟩
abbrev main_v49 : Ref sig .tc := ⟨.hbm, 59, rfl⟩
abbrev main_cst_7 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_c : Ref sig .tc := ⟨.hbm, 68, rfl⟩
abbrev main_c_8 : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_c_9 : Ref sig .tc := ⟨.hbm, 78, rfl⟩
abbrev main_c_10 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_v60 : Ref sig .tc := ⟨.hbm, 85, rfl⟩
abbrev main_v61 : Ref sig .tc := ⟨.hbm, 86, rfl⟩
abbrev main_c_11 : Ref sig .tc := ⟨.hbm, 87, rfl⟩
abbrev main_c_12 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_13 : Ref sig .tc := ⟨.hbm, 97, rfl⟩
abbrev main_c_14 : Ref sig .tc := ⟨.hbm, 98, rfl⟩
abbrev main_call3_v0 : Ref sig .tc := ⟨.hbm, 99, rfl⟩
abbrev main_call3_v1 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_c_15 : Ref sig .tc := ⟨.hbm, 109, rfl⟩
abbrev main_v70 : Ref sig .tc := ⟨.hbm, 110, rfl⟩
abbrev main_v71 : Ref sig .tc := ⟨.hbm, 111, rfl⟩
abbrev main_c_16 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_c_17 : Ref sig .tc := ⟨.hbm, 116, rfl⟩
abbrev main_v75 : Ref sig .tc := ⟨.hbm, 117, rfl⟩
abbrev main_v76 : Ref sig .tc := ⟨.hbm, 118, rfl⟩
abbrev main_c_18 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_c_19 : Ref sig .tc := ⟨.hbm, 123, rfl⟩
abbrev main_v80 : Ref sig .tc := ⟨.hbm, 124, rfl⟩
abbrev main_v81 : Ref sig .tc := ⟨.hbm, 125, rfl⟩
abbrev main_c_20 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_c_21 : Ref sig .tc := ⟨.hbm, 140, rfl⟩
abbrev main_v95 : Ref sig .tc := ⟨.hbm, 141, rfl⟩
abbrev main_v96 : Ref sig .tc := ⟨.hbm, 142, rfl⟩
abbrev main_c_22 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_c_23 : Ref sig .tc := ⟨.hbm, 147, rfl⟩
abbrev main_v100 : Ref sig .tc := ⟨.hbm, 148, rfl⟩
abbrev main_v101 : Ref sig .tc := ⟨.hbm, 149, rfl⟩
abbrev main_c_24 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_c_25 : Ref sig .tc := ⟨.hbm, 154, rfl⟩
abbrev main_v105 : Ref sig .tc := ⟨.hbm, 155, rfl⟩
abbrev main_v106 : Ref sig .tc := ⟨.hbm, 156, rfl⟩
abbrev main_c_26 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_c_27 : Ref sig .tc := ⟨.hbm, 171, rfl⟩
abbrev main_v120 : Ref sig .tc := ⟨.hbm, 172, rfl⟩
abbrev main_v121 : Ref sig .tc := ⟨.hbm, 173, rfl⟩
abbrev main_c_28 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_c_29 : Ref sig .tc := ⟨.hbm, 178, rfl⟩
abbrev main_v125 : Ref sig .tc := ⟨.hbm, 179, rfl⟩
abbrev main_v126 : Ref sig .tc := ⟨.hbm, 180, rfl⟩
abbrev main_c_30 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_c_31 : Ref sig .tc := ⟨.hbm, 185, rfl⟩
abbrev main_v130 : Ref sig .tc := ⟨.hbm, 186, rfl⟩
abbrev main_v131 : Ref sig .tc := ⟨.hbm, 187, rfl⟩
abbrev main_c_32 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_c_33 : Ref sig .tc := ⟨.hbm, 202, rfl⟩
abbrev main_v145 : Ref sig .tc := ⟨.hbm, 203, rfl⟩
abbrev main_v146 : Ref sig .tc := ⟨.hbm, 204, rfl⟩
abbrev main_c_34 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_c_35 : Ref sig .tc := ⟨.hbm, 209, rfl⟩
abbrev main_v150 : Ref sig .tc := ⟨.hbm, 210, rfl⟩
abbrev main_v151 : Ref sig .tc := ⟨.hbm, 211, rfl⟩
abbrev main_c_36 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_c_37 : Ref sig .tc := ⟨.hbm, 216, rfl⟩
abbrev main_v155 : Ref sig .tc := ⟨.hbm, 217, rfl⟩
abbrev main_v156 : Ref sig .tc := ⟨.hbm, 218, rfl⟩
abbrev main_c_38 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_cst_39 : Ref sig .tc := ⟨.hbm, 251, rfl⟩
abbrev main_call4_v0 : Ref sig .tc := ⟨.hbm, 252, rfl⟩
abbrev main_call4_v1 : Ref sig .tc := ⟨.hbm, 253, rfl⟩
abbrev main_v188 : Ref sig .tc := ⟨.hbm, 254, rfl⟩
abbrev main_v189 : Ref sig .tc := ⟨.hbm, 255, rfl⟩

abbrev nD : Nat := 1
abbrev τ : Topo := Topo.v7x

variable {F : FTy → Type} [FloatOps F]
-- ==== Proof.Chunk.lean ====
/-
  What the kernel's body leaves in its result block: 25 chunks of eight boxes each, every chunk the product of the
  hat weights of its 448 sample points with the 4096 x 256 feature map.
-/
module

public import proofs.«01_k».proof.Proof.Gen.KernelIdeal.Value
public import Idealize.ShloMosaic.Lib.Pointwise
public import Idealize.ShloMosaic.Lib.Pipeline.ValueKit

@[expose] public section

set_option maxRecDepth 16384

noncomputable section

namespace Cert.KernelIdeal.Block

open Cert.KernelIdeal Cert.KernelIdeal.Gen Idealize.ShloMosaic Idealize.ShloMosaic.TcCoe Idealize.SL.Sem

section
variable {F : FTy → Type} [FloatOps F]

/-- Rows `56 k` to `56 k + 55` of the sample rows are a slice of them. -/
theorem slicesY (k : Fin 25) : S1400x1.Slices ![56 * k.val, 0] S56x1 := by revert k; decide
/-- Rows `64 k` to `64 k + 63` of the sample columns are a slice of them. -/
theorem slicesX (k : Fin 25) : S1600x1.Slices ![64 * k.val, 0] S64x1 := by revert k; decide
/-- A chunk of eight boxes lies inside the output block. -/
theorem inbOut (k : Fin 25) : ∀ a, (![0, 8 * (24 - k.val), 0, 0, 0] : Fin 5 → ℕ) a + S1x8x7x7x256.size a ≤ S1x200x7x7x256.size a := by
  revert k; decide

/-- The weights along y of chunk `k`: one row per sample (eight lanes across for each sample row), one column per
    feature-map position. -/
def weightY (k : Fin 25) (ycol : FVec F S1x4096 .f32) (iny : FVec F S1400x1 .f32) : FVec F S448x4096 .bf16 :=
  have a : FVec F S56x1x1 .f32 := shapeCast S56x1x1 (extractStridedSlice S56x1 ![56 * k.val, 0] iny (slicesY k)) shapeCasts_S56x1_S56x1x1
  have b : FVec F S448x1 .f32 := shapeCast S448x1 (broadcastTo S56x8x1 a broadcasts_S56x1x1_S56x8x1) shapeCasts_S56x8x1_S448x1
  have d : FVec F S448x4096 .bf16 := truncf .bf16 (subf (broadcastTo S448x4096 b broadcasts_S448x1_S448x4096) (broadcastTo S448x4096 ycol broadcasts_S1x4096_S448x4096)) bitsLt_bf16_f32
  maximumf (subf (broadcast S448x4096 (Scalar.ofBits .bf16 0x3F80#16)) (absf d)) (broadcast S448x4096 (Scalar.ofBits .bf16 0x0000#16))

/-- The weights along x of chunk `k`, for the first 128 feature-map positions. -/
def weightX (k : Fin 25) (xcol : FVec F S1x128 .f32) (inx : FVec F S1600x1 .f32) : FVec F S448x128 .bf16 :=
  have a : FVec F S8x1x8x1 .f32 := shapeCast S8x1x8x1 (extractStridedSlice S64x1 ![64 * k.val, 0] inx (slicesX k)) shapeCasts_S64x1_S8x1x8x1
  have a' : FVec F S8x1x8x1 .f32 := shapeCast S8x1x8x1 a shapeCasts_S8x1x8x1_S8x1x8x1
  have b : FVec F S448x1 .f32 := shapeCast S448x1 (broadcastTo S8x7x8x1 a' broadcasts_S8x1x8x1_S8x7x8x1) shapeCasts_S8x7x8x1_S448x1
  have d : FVec F S448x128 .bf16 := truncf .bf16 (subf (broadcastTo S448x128 b broadcasts_S448x1_S448x128) (broadcastTo S448x128 xcol broadcasts_S1x128_S448x128)) bitsLt_bf16_f32
  maximumf (subf (broadcast S448x128 (Scalar.ofBits .bf16 0x3F80#16)) (absf d)) (broadcast S448x128 (Scalar.ofBits .bf16 0x0000#16))

/-- The x weights repeated over all 4096 positions. -/
def tiled (w : FVec F S448x128 .bf16) : FVec F S448x4096 .bf16 :=
  concatenate S448x4096 1 (List.replicate 32 ⟨S448x128, w⟩) concatenates_S448x128_S448x128_S448x128_S448x128_S448x128_S448x128_S448x128_S448x128_S448x128_S448x128_S448x128_S448x128_S448x128_S448x128_S448x128_S448x128_S448x128_S448x128_S448x128_S448x128_S448x128_S448x128_S448x128_S448x128_S448x128_S448x128_S448x128_S448x128_S448x128_S448x128_S448x128_S448x128_S448x4096_d1

/-- The block of weights times the features, the padding lane of every sample row dropped. -/
def weighted (wy wx : FVec F S448x4096 .bf16) (feat : FVec F S4096x256 .bf16) : FVec F S1x8x7x7x256 .f32 :=
  have p : FVec F S448x256 .f32 := matmul dot_S448x4096_S4096x256_S448x256_1_0_0_1_n_n none (mulf wy wx) feat (constant S448x256 .f32 0x00000000#32)
  have q : FVec F S8x7x8x256 .f32 := shapeCast S8x7x8x256 p shapeCasts_S448x256_S8x7x8x256
  shapeCast S1x8x7x7x256 (extractStridedSlice S8x7x7x256 ![0, 0, 0, 0] q slices_S8x7x8x256_o0_0_0_0_S8x7x7x256) shapeCasts_S8x7x7x256_S1x8x7x7x256

/-- Chunk `k` of the block. -/
def chunk (k : Fin 25) (ycol : FVec F S1x4096 .f32) (xcol : FVec F S1x128 .f32) (feat : FVec F S4096x256 .bf16)
    (iny : FVec F S1400x1 .f32) (inx : FVec F S1600x1 .f32) : FVec F S1x8x7x7x256 .f32 :=
  weighted (weightY k ycol iny) (tiled (weightX k xcol inx)) feat

/-- The body's result block is its 25 chunks, the last chunk first. -/
theorem out0_4_eq (x0 : Vec F S1x4096x256 .bf16) (x1 : Vec F S1x200x5 .f32) (x2 : Vec F S1600x8 .f32) (x3 : Vec F S8x4096 .f32) :
    out0_4 x0 x1 x2 x3 = View.canon (List.ofFn fun k : Fin 25 =>
      ⟨Rect.unit (s := S1x200x7x7x256) ![0, 8 * (24 - k.val), 0, 0, 0] S1x8x7x7x256.size (inbOut k),
        chunk k.rev (View.ld x3 r0_0) (View.ld x3 r0_1) (k0_pay63 x0 x1 x2 x3) (k0_pay66 x0 x1 x2 x3) (k0_pay68 x0 x1 x2 x3)⟩) := rfl

end

/-! ## A chunk at an index, over the extended reals -/

/-- The hat weight of the distance between `a` and `b`. -/
def hatE (a b : EReal) : EReal := max (1 - max (a - b) (-(a - b))) 0

/-- The row weights of a chunk at an index: the hat weight of the sample row against the cell row. -/
theorem weightY_apply (k : Fin 25) (ycol : FVec Ideal S1x4096 .f32) (iny : FVec Ideal S1400x1 .f32) (l : Fin 448) (q : Fin 4096) :
    weightY k ycol iny (ix2 l q) = hatE (iny (ix2 ⟨56 * k.val + l.val / 8, by omega⟩ 0)) (ycol (ix2 0 q)) := by
  pointwise [weightY]
  rfl

/-- The column weights of a chunk at an index: the hat weight of the sample column against the cell column. -/
theorem weightX_apply (k : Fin 25) (xcol : FVec Ideal S1x128 .f32) (inx : FVec Ideal S1600x1 .f32) (l : Fin 448) (q : Fin 128) :
    weightX k xcol inx (ix2 l q) = hatE (inx (ix2 ⟨64 * k.val + (l.val / 56 * 8 + l.val % 8), by omega⟩ 0)) (xcol (ix2 0 q)) := by
  pointwise [weightX]
  rfl

/-- The 128 column weights repeated 32 times, at an index: the weight at the index modulo 128. -/
theorem tiled_apply (w : FVec Ideal S448x128 .bf16) (l : Fin 448) (q : Fin 4096) :
    tiled w (ix2 l q) = w (ix2 l ⟨q.val % 128, by omega⟩) := by
  refine concatenate_replicate_apply (t := S448x4096) (s₁ := S448x128) 1 32 w _ rfl (ix2 l q) (ix2 l ⟨q.val % 128, by omega⟩) rfl ?_
  intro b hb
  have h0 : b = (0 : Fin 2) := by
    change Fin 2 at b
    revert hb
    fin_cases b
    · intro _; rfl
    · intro h; exact absurd rfl h
  subst h0
  rfl

/-- The product of the weights with the features, at an index: the weighted sum over the 4096 cells. -/
theorem weighted_apply (wy wx : FVec Ideal S448x4096 .bf16) (feat : FVec Ideal S4096x256 .bf16) (r : Fin 8) (i j : Fin 7) (c : Fin 256) :
    weighted wy wx feat (ix5 0 r i j c)
      = ∑ q : Fin 4096, wy (ix2 ⟨r.val * 56 + i.val * 8 + j.val, by omega⟩ q) * wx (ix2 ⟨r.val * 56 + i.val * 8 + j.val, by omega⟩ q) * feat (ix2 q c) := by
  pointwise [weighted]

/-- A chunk at box `r` of its eight, sample `(i, j)` and channel `c`: the features weighted by the products of the hat
    weights along y and along x. -/
theorem chunk_apply (k : Fin 25) (ycol : FVec Ideal S1x4096 .f32) (xcol : FVec Ideal S1x128 .f32) (feat : FVec Ideal S4096x256 .bf16)
    (iny : FVec Ideal S1400x1 .f32) (inx : FVec Ideal S1600x1 .f32) (r : Fin 8) (i j : Fin 7) (c : Fin 256) :
    chunk k ycol xcol feat iny inx (ix5 0 r i j c)
      = ∑ q : Fin 4096, hatE (iny (ix2 ⟨7 * (8 * k.val + r.val) + i.val, by omega⟩ 0)) (ycol (ix2 0 q))
          * hatE (inx (ix2 ⟨8 * (8 * k.val + r.val) + j.val, by omega⟩ 0)) (xcol (ix2 0 ⟨q.val % 128, by omega⟩)) * feat (ix2 q c) := by
  rw [chunk, weighted_apply]
  refine Finset.sum_congr rfl fun q _ => ?_
  rw [weightY_apply, tiled_apply, weightX_apply]
  have e1 : (⟨56 * k.val + (r.val * 56 + i.val * 8 + j.val) / 8, by omega⟩ : Fin 1400) = ⟨7 * (8 * k.val + r.val) + i.val, by omega⟩ :=
    Fin.ext (by show 56 * k.val + (r.val * 56 + i.val * 8 + j.val) / 8 = 7 * (8 * k.val + r.val) + i.val; omega)
  have e2 : (⟨64 * k.val + ((r.val * 56 + i.val * 8 + j.val) / 56 * 8 + (r.val * 56 + i.val * 8 + j.val) % 8), by omega⟩ : Fin 1600)
      = ⟨8 * (8 * k.val + r.val) + j.val, by omega⟩ :=
    Fin.ext (by show 64 * k.val + ((r.val * 56 + i.val * 8 + j.val) / 56 * 8 + (r.val * 56 + i.val * 8 + j.val) % 8) = 8 * (8 * k.val + r.val) + j.val; omega)
  rw [e1, e2]

/-! ## The block -/

/-- The result block at box `r` of its 200, sample `(i, j)` and channel `c`, from the four input blocks: `x0` the
    features, `x1` the boxes, `x2` the table of interpolation coefficients, `x3` the grid coordinates. -/
def blockAt (x0 : Vec Ideal S1x4096x256 .bf16) (x1 : Vec Ideal S1x200x5 .f32) (x2 : Vec Ideal S1600x8 .f32) (x3 : Vec Ideal S8x4096 .f32)
    (r : Fin 200) (i j : Fin 7) (c : Fin 256) : EReal :=
  ∑ q : Fin 4096,
    hatE (x1 (ix3 0 r 0) * x2 (ix2 ⟨7 * r.val + i.val, by omega⟩ 0) + x1 (ix3 0 r 2) * x2 (ix2 ⟨7 * r.val + i.val, by omega⟩ 1)) (x3 (ix2 0 q))
      * hatE (x1 (ix3 0 r 1) * x2 (ix2 ⟨8 * r.val + j.val, by omega⟩ 2) + x1 (ix3 0 r 3) * x2 (ix2 ⟨8 * r.val + j.val, by omega⟩ 3)
          + x2 (ix2 ⟨8 * r.val + j.val, by omega⟩ 4)) (x3 (ix2 1 ⟨q.val % 128, by omega⟩))
      * x0 (ix3 0 q c)

/-- The y coordinate of sample row `l`: box `l / 7`, its two ends weighted by the coefficients of row `l`. -/
theorem iny_apply (x0 : Vec Ideal S1x4096x256 .bf16) (x1 : Vec Ideal S1x200x5 .f32) (x2 : Vec Ideal S1600x8 .f32) (x3 : Vec Ideal S8x4096 .f32)
    (l : Fin 1400) :
    k0_pay66 x0 x1 x2 x3 (ix2 l 0) = x1 (ix3 0 ⟨l.val / 7, by omega⟩ 0) * x2 (ix2 ⟨l.val, by omega⟩ 0)
      + x1 (ix3 0 ⟨l.val / 7, by omega⟩ 2) * x2 (ix2 ⟨l.val, by omega⟩ 1) := by
  pointwise [k0_pay66, k0_pay5]

/-- The x coordinate of sample lane `l`: box `l / 8`, its two ends weighted by the coefficients of row `l`, with the
    offset of the padding lane. -/
theorem inx_apply (x0 : Vec Ideal S1x4096x256 .bf16) (x1 : Vec Ideal S1x200x5 .f32) (x2 : Vec Ideal S1600x8 .f32) (x3 : Vec Ideal S8x4096 .f32)
    (l : Fin 1600) :
    k0_pay68 x0 x1 x2 x3 (ix2 l 0) = x1 (ix3 0 ⟨l.val / 8, by omega⟩ 1) * x2 (ix2 l 2)
      + x1 (ix3 0 ⟨l.val / 8, by omega⟩ 3) * x2 (ix2 l 3) + x2 (ix2 l 4) := by
  pointwise [k0_pay68, k0_pay7, k0_pay64, k0_pay65, k0_pay67, k0_pay3, k0_pay4, k0_pay6]

/-- The features of the block as a 4096 x 256 matrix. -/
theorem feat_apply (x0 : Vec Ideal S1x4096x256 .bf16) (x1 : Vec Ideal S1x200x5 .f32) (x2 : Vec Ideal S1600x8 .f32) (x3 : Vec Ideal S8x4096 .f32)
    (q : Fin 4096) (c : Fin 256) : k0_pay63 x0 x1 x2 x3 (ix2 q c) = x0 (ix3 0 q c) := by
  pointwise [k0_pay63, k0_pay2]

/-- What the body leaves in the result block, at an index: `blockAt` of the input blocks. -/
theorem out0_4_apply (b0 : Vec Ideal S1x4096x256 .bf16) (b1 : Vec Ideal S1x200x5 .f32) (b2 : Vec Ideal S1600x8 .f32) (b3 : Vec Ideal S8x4096 .f32)
    (r : Fin 200) (i j : Fin 7) (c : Fin 256) :
    out0_4 b0 b1 b2 b3 (ix5 0 r i j c) = blockAt b0 b1 b2 b3 r i j c := by
  rw [out0_4_eq]
  canon_tiles x h
  · idx_vars x
    obtain rfl : x0 = 0 := Subsingleton.elim _ _
    obtain rfl : i = x2 := Fin.ext h2
    obtain rfl : j = x3 := Fin.ext h3
    obtain rfl : c = x4 := Fin.ext h4
    have hr : 8 * k.rev.val + x1.val = r.val := by rw [Fin.val_rev]; omega
    rw [chunk_apply, blockAt]
    refine Finset.sum_congr rfl fun q _ => ?_
    rw [iny_apply, inx_apply, feat_apply]
    have e1 : (⟨(7 * (8 * k.rev.val + x1.val) + i.val) / 7, by omega⟩ : Fin 200) = r := Fin.ext (by show (_ : ℕ) / 7 = _; omega)
    have e2 : (⟨(8 * (8 * k.rev.val + x1.val) + j.val) / 8, by omega⟩ : Fin 200) = r := Fin.ext (by show (_ : ℕ) / 8 = _; omega)
    have e3 : (⟨8 * (8 * k.rev.val + x1.val) + j.val, by omega⟩ : Fin 1600) = ⟨8 * r.val + j.val, by omega⟩ := Fin.ext (congrArg (fun n => 8 * n + j.val) hr)
    have e4 : (⟨7 * (8 * k.rev.val + x1.val) + i.val, by omega⟩ : Fin 1600) = ⟨7 * r.val + i.val, by omega⟩ := Fin.ext (congrArg (fun n => 7 * n + i.val) hr)
    simp only [e1, e2, e3, e4]
    pointwise
  · refine ⟨⟨24 - r.val / 8, by omega⟩, fun a => ?_⟩
    have hr : 8 * (24 - (24 - r.val / 8)) ≤ r.val ∧ r.val < 8 * (24 - (24 - r.val / 8)) + 8 := by omega
    change Fin 5 at a
    fin_cases a
    · exact ⟨le_refl 0, Nat.zero_lt_one⟩
    · exact hr
    · exact ⟨Nat.zero_le _, (Nat.zero_add 7).symm ▸ i.isLt⟩
    · exact ⟨Nat.zero_le _, (Nat.zero_add 7).symm ▸ j.isLt⟩
    · exact ⟨Nat.zero_le _, (Nat.zero_add 256).symm ▸ c.isLt⟩

end Cert.KernelIdeal.Block

end
-- ==== Proof.Array.lean ====
/-
  What the output array holds after the run: every element is the weighted sum of the image's cells, read from the
  features, the boxes and the two constant tables as the kernel's own region finds them.
-/
module

public import proofs.«01_k».proof.Proof.Chunk

@[expose] public section

set_option maxRecDepth 16384

noncomputable section

namespace Cert.KernelIdeal.Array

open Cert.KernelIdeal Cert.KernelIdeal.Gen Cert.KernelIdeal.Block Idealize.ShloMosaic Idealize.ShloMosaic.TcCoe Idealize.SL.Sem
open Idealize.ShloMosaic.Pipeline (Dat)

variable (m : (ℓ : Loc nD τ sig) → Buf (Elt Ideal) ℓ)

/-- One output element as a weighted sum of an image's 4096 cells, over the four arrays the kernel reads. Box `r` is the
box `r % 200` of its block, which fixes the rows of the coefficient table it uses. -/
def cellSum (x0 : Vec Ideal S2x4096x256 .bf16) (x1 : Vec Ideal S2x1000x5 .f32) (x2 : Vec Ideal S1600x8 .f32) (x3 : Vec Ideal S8x4096 .f32)
    (b : Fin 2) (r : Fin 1000) (i j : Fin 7) (ch : Fin 256) : EReal :=
  ∑ q : Fin 4096,
    hatE (x1 (ix3 b r 0) * x2 (ix2 ⟨7 * (r.val % 200) + i.val, by omega⟩ 0) + x1 (ix3 b r 2) * x2 (ix2 ⟨7 * (r.val % 200) + i.val, by omega⟩ 1)) (x3 (ix2 0 q))
      * hatE (x1 (ix3 b r 1) * x2 (ix2 ⟨8 * (r.val % 200) + j.val, by omega⟩ 2) + x1 (ix3 b r 3) * x2 (ix2 ⟨8 * (r.val % 200) + j.val, by omega⟩ 3)
          + x2 (ix2 ⟨8 * (r.val % 200) + j.val, by omega⟩ 4)) (x3 (ix2 1 ⟨q.val % 128, by omega⟩))
      * x0 (ix3 b q ch)

/-- The array of these sums. -/
def sums (x0 : Vec Ideal S2x4096x256 .bf16) (x1 : Vec Ideal S2x1000x5 .f32) (x2 : Vec Ideal S1600x8 .f32) (x3 : Vec Ideal S8x4096 .f32) :
    Vec Ideal S2x1000x7x7x256 .f32 := fun z => cellSum x0 x1 x2 x3 (z 0) (z 1) (z 2) (z 3) (z 4)

/-- Which block of each array a grid point works on: the image is the first coordinate, the block of boxes the second. -/
theorem idx : ∀ t : Fin cfg0.N, win0_0.index t = ![(grid0.coords t 0).val, 0, 0] ∧ win0_1.index t = ![(grid0.coords t 0).val, (grid0.coords t 1).val, 0]
    ∧ win0_2.index t = ![0, 0] ∧ win0_3.index t = ![0, 0]
    ∧ win0_4.index t = ![(grid0.coords t 0).val, (grid0.coords t 1).val, 0, 0, 0] ∧ (grid0.coords t 0).val < 2 ∧ (grid0.coords t 1).val < 5 :=
  (by decide +kernel : ∀ t : Fin grid0.N, _)

/-- A block's sum is the array's sum, when the block's arrays are read from the arrays at the block's place. -/
theorem blockAt_eq (y0 : Vec Ideal S1x4096x256 .bf16) (y1 : Vec Ideal S1x200x5 .f32) (y2 : Vec Ideal S1600x8 .f32) (y3 : Vec Ideal S8x4096 .f32)
    (x0 : Vec Ideal S2x4096x256 .bf16) (x1 : Vec Ideal S2x1000x5 .f32) (x2 : Vec Ideal S1600x8 .f32) (x3 : Vec Ideal S8x4096 .f32)
    (b : Fin 2) (s : Fin 1000) (r : Fin 200) (i j : Fin 7) (ch : Fin 256) (hr : s.val % 200 = r.val)
    (h0 : ∀ q : Fin 4096, y0 (ix3 0 q ch) = x0 (ix3 b q ch)) (h1 : ∀ k : Fin 5, y1 (ix3 0 r k) = x1 (ix3 b s k))
    (h2 : y2 = x2) (h3 : y3 = x3) : blockAt y0 y1 y2 y3 r i j ch = cellSum x0 x1 x2 x3 b s i j ch := by
  subst h2 h3
  unfold blockAt cellSum
  refine Finset.sum_congr rfl fun q _ => ?_
  simp only [h0, h1, hr]

section blocks
variable (c : Dev nD) (t : Fin cfg0.N)

/-- A point's block of the features is its image. -/
theorem features_block (q : Fin 4096) (ch : Fin 256) : (iblk m c 0 t : Vec Ideal S1x4096x256 .bf16) (ix3 0 q ch)
    = (V m c main_call0_v1 : Vec Ideal S2x4096x256 .bf16) (ix3 ⟨(grid0.coords t 0).val, (idx t).2.2.2.2.2.1⟩ q ch) := by
  blk_ext [iblk, (idx t).1]

/-- A point's block of the boxes is 200 boxes of its image. -/
theorem boxes_block (r : Fin 200) (k : Fin 5) : (iblk m c 1 t : Vec Ideal S1x200x5 .f32) (ix3 0 r k)
    = (V m c main_arg1 : Vec Ideal S2x1000x5 .f32) (ix3 ⟨(grid0.coords t 0).val, (idx t).2.2.2.2.2.1⟩
        ⟨(grid0.coords t 1).val * 200 + r.val, by have := (idx t).2.2.2.2.2.2; omega⟩ k) := by
  blk_ext [iblk, (idx t).2.1]

/-- Every point reads the whole coefficient table. -/
theorem coeff_block : (iblk m c 2 t : Vec Ideal S1600x8 .f32) = (V m c main_call0_v51 : Vec Ideal S1600x8 .f32) := by
  blk_ext! [iblk, (idx t).2.2.1]

/-- Every point reads the whole table of cell rows and columns. -/
theorem grid_block : (iblk m c 3 t : Vec Ideal S8x4096 .f32) = (V m c main_call0_cst : Vec Ideal S8x4096 .f32) := by
  blk_ext! [iblk, (idx t).2.2.2.1]

end blocks

/-- What a grid point leaves at an index of its output block is the sum at the index's place in the array. -/
theorem point (c : Dev nD) (t : Fin cfg0.N) (r : Fin 200) (i j : Fin 7) (ch : Fin 256) :
    out0_4 (F := Ideal) (iblk m c 0 t) (iblk m c 1 t) (iblk m c 2 t) (iblk m c 3 t) (ix5 0 r i j ch)
      = cellSum (V m c main_call0_v1) (V m c main_arg1) (V m c main_call0_v51) (V m c main_call0_cst)
          ⟨(grid0.coords t 0).val, (idx t).2.2.2.2.2.1⟩ ⟨(grid0.coords t 1).val * 200 + r.val, by have := (idx t).2.2.2.2.2.2; omega⟩ i j ch :=
  (out0_4_apply _ _ _ _ r i j ch).trans (blockAt_eq _ _ _ _ _ _ _ _ _ _ r i j ch
    (by show ((grid0.coords t 1).val * 200 + r.val) % 200 = r.val; omega)
    (fun q => features_block m c t q ch) (fun k => boxes_block m c t r k) (coeff_block m c t) (grid_block m c t))

/-- The output array after the run. -/
theorem final (c : Dev nD) : (dats (F := Ideal) m 0 c).arrAt 4 cfg0.N
    = sums (V m c main_call0_v1) (V m c main_arg1) (V m c main_call0_v51) (V m c main_call0_cst) := by
  refine (dats m 0 c).arrAt_eq_of_covers 4 _ (by decide +kernel) fun t hf y => ?_
  blk_simp
  rw [after0_4]
  idx_vars y
  obtain rfl : y0 = 0 := Subsingleton.elim _ _
  refine (point m c t y1 y2 y3 y4).trans ?_
  have e := (idx t).2.2.2.2.1
  show sums _ _ _ _ (ix5 _ _ y2 y3 y4) = _
  blk_ext [e]

end Cert.KernelIdeal.Array

end
-- ==== Proof.Tables.lean ====
/-
  The arrays the kernel's region finds: the features laid out as 4096 rows, the table of interpolation coefficients and
  the grid coordinates, each read at an index.
-/
module

public import proofs.«01_k».proof.Proof.Chunk
public import Idealize.ShloMosaic.Lib.StableHlo.ReadAt

@[expose] public section

set_option maxRecDepth 16384

noncomputable section

namespace Cert.KernelIdeal.Tables

open Cert.KernelIdeal Cert.KernelIdeal.Gen Idealize.ShloMosaic Idealize.ShloMosaic.TcCoe Idealize.SL.Sem

variable (m : (ℓ : Loc nD τ sig) → Buf (Elt Ideal) ℓ) (c : Dev nD)

/-- The features as the region finds them: row `q` of image `b` is the pixel `(q / 64, q % 64)`. -/
theorem features_apply (b : Fin 2) (q : Fin 4096) (ch : Fin 256) :
    (V m c main_call0_v1 : Vec Ideal S2x4096x256 .bf16) (ix3 b q ch)
      = (m (c, main_arg0) : Vec Ideal S2x64x64x256 .f32) (ix4 b ⟨q.val / 64, by omega⟩ ⟨q.val % 64, by omega⟩ ch) := by
  unfold V
  after_reads_at

/-- The quotient of a sample number by six, as the table computes it. -/
theorem sixth_eq (n : ℕ) (hn : n < 7) :
    Ideal.div (FloatOps.sitofp (F := Ideal) FTy.f32 (BitVec.ofNat 32 n)) (Ideal.ofBits FTy.f32 1086324736#32) = (((n : ℝ) / 6 : ℝ) : EReal) := by
  have h6 : Ideal.ofBits FTy.f32 1086324736#32 = ((6 : ℝ) : EReal) := by
    simp [Ideal.ofBits, Ideal.ieee, -EReal.coe_mul]; norm_num
  have hi : (BitVec.ofNat 32 n).toInt = n := by interval_cases n <;> rfl
  have hs : (FloatOps.sitofp (F := Ideal) FTy.f32 (BitVec.ofNat 32 n) : EReal) = (((BitVec.ofNat 32 n).toInt : ℝ) : EReal) := rfl
  rw [h6, Ideal.div_coe (by norm_num : (6 : ℝ) ≠ 0), hs, hi, ← EReal.coe_mul]
  congr 1
  push_cast
  ring

/-- The table's scale: 63 / 1024, exactly. -/
theorem scale_eq : Ideal.ofBits FTy.f32 1031536640#32 = ((63 / 1024 : ℝ) : EReal) := by
  simp [Ideal.ofBits, Ideal.ieee, -EReal.coe_mul]; norm_num

/-- The table's entry for the upper or left end, as a real number. -/
theorem compl_mul (n : ℕ) :
    (1 - (((n : ℝ) / 6 : ℝ) : EReal)) * ((63 / 1024 : ℝ) : EReal) = (((1 - (n : ℝ) / 6) * (63 / 1024) : ℝ) : EReal) := by
  rw [EReal.coe_mul, EReal.coe_sub, EReal.coe_one]

/-- Column 0, a row of a sample: how much of the box's upper end sample row `l % 7` takes, in feature-map units. -/
theorem coeff0_apply (l : Fin 1600) (hl : l.val < 1400) :
    (V m c main_call0_v51 : Vec Ideal S1600x8 .f32) (ix2 l 0) = (((1 - ((l.val % 7 : ℕ) : ℝ) / 6) * (63 / 1024) : ℝ) : EReal) := by
  unfold V
  after_reads_at
  show (StableHlo.upto hostOps0 (fun b => m (c, b)) 64 (Proc.tc.devRef main_call0_v43) : Vec Ideal S1600x1 .f32) (ix2 l 0) = _
  after_reads_at
  after_reads_at
  rw [dif_pos hl]
  rw [sixth_eq _ (Nat.mod_lt _ (by omega)), scale_eq, compl_mul]

/-- Column 1, a row of a sample: how much of the box's lower end sample row `l % 7` takes. -/
theorem coeff1_apply (l : Fin 1600) (hl : l.val < 1400) :
    (V m c main_call0_v51 : Vec Ideal S1600x8 .f32) (ix2 l 1) = ((((l.val % 7 : ℕ) : ℝ) / 6 * (63 / 1024) : ℝ) : EReal) := by
  unfold V
  after_reads_at
  show (StableHlo.upto hostOps0 (fun b => m (c, b)) 64 (Proc.tc.devRef main_call0_v44) : Vec Ideal S1600x1 .f32) (ix2 l 0) = _
  after_reads_at
  after_reads_at
  rw [dif_pos hl]
  rw [sixth_eq _ (Nat.mod_lt _ (by omega)), scale_eq, ← EReal.coe_mul]

/-- Column 2, a sample lane: how much of the box's left end sample column `l % 8` takes. -/
theorem coeff2_apply (l : Fin 1600) (hl : l.val % 8 < 7) :
    (V m c main_call0_v51 : Vec Ideal S1600x8 .f32) (ix2 l 2) = (((1 - ((l.val % 8 : ℕ) : ℝ) / 6) * (63 / 1024) : ℝ) : EReal) := by
  unfold V
  after_reads_at
  show (StableHlo.upto hostOps0 (fun b => m (c, b)) 64 (Proc.tc.devRef main_call0_v45) : Vec Ideal S1600x1 .f32) (ix2 l 0) = _
  after_reads_at
  after_reads_at
  rw [dif_pos hl]
  rw [sixth_eq _ hl, scale_eq, compl_mul]

/-- Column 3, a sample lane: how much of the box's right end sample column `l % 8` takes. -/
theorem coeff3_apply (l : Fin 1600) (hl : l.val % 8 < 7) :
    (V m c main_call0_v51 : Vec Ideal S1600x8 .f32) (ix2 l 3) = ((((l.val % 8 : ℕ) : ℝ) / 6 * (63 / 1024) : ℝ) : EReal) := by
  unfold V
  after_reads_at
  show (StableHlo.upto hostOps0 (fun b => m (c, b)) 64 (Proc.tc.devRef main_call0_v46) : Vec Ideal S1600x1 .f32) (ix2 l 0) = _
  after_reads_at
  after_reads_at
  rw [dif_pos hl]
  rw [sixth_eq _ hl, scale_eq, ← EReal.coe_mul]

/-- Column 4, a sample lane: no offset. -/
theorem coeff4_apply (l : Fin 1600) (hl : l.val % 8 < 7) :
    (V m c main_call0_v51 : Vec Ideal S1600x8 .f32) (ix2 l 4) = (0 : EReal) := by
  unfold V
  after_reads_at
  show (StableHlo.upto hostOps0 (fun b => m (c, b)) 64 (Proc.tc.devRef main_call0_v47) : Vec Ideal S1600x1 .f32) (ix2 l 0) = _
  after_reads_at
  after_reads_at
  rw [dif_pos hl]

/-- The 32-bit float pattern of a small whole number. -/
def pattern (n : ℕ) : BitVec 32 :=
  if n = 0 then 0#32 else BitVec.ofNat 32 ((127 + n.log2) * 2 ^ 23 + (n * 2 ^ (23 - n.log2) - 2 ^ 23))

/-- The three fields of the pattern of a nonzero number below 64: the sign, the exponent and the significand. -/
theorem pattern_fields : ∀ n : Fin 64, n ≠ 0 → (pattern n.val).extractLsb' 31 1 = 0#1
    ∧ ((pattern n.val).extractLsb' 23 8).toNat = 127 + n.val.log2
    ∧ 2 ^ 23 + ((pattern n.val).extractLsb' 0 23).toNat = n.val * 2 ^ (23 - n.val.log2) ∧ n.val.log2 ≤ 5 := by
  decide +kernel

/-- The pattern of a number below 64 denotes it. -/
theorem ofBits_pattern (n : ℕ) (hn : n < 64) : Ideal.ofBits FTy.f32 (pattern n) = ((n : ℝ) : EReal) := by
  rcases Nat.eq_zero_or_pos n with rfl | hpos
  · show Ideal.ofBits FTy.f32 0x00000000#32 = _
    rw [Ideal.ofBits_zero_f32]
    simp
  · obtain ⟨h1, h2, h3, h4⟩ := pattern_fields ⟨n, hn⟩ (fun h => by simp [Fin.ext_iff] at h; omega)
    show Ideal.ieee 8 23 (pattern n) = _
    have e1 : ¬ (127 + n.log2 = 2 ^ 8 - 1) := by simp only at h4; omega
    have e2 : ¬ (127 + n.log2 = 0) := by omega
    have e3 : ((2 ^ 23 + ((pattern n).extractLsb' 0 23).toNat : ℕ) : ℝ) = (n : ℝ) * 2 ^ (23 - n.log2) := by
      simp only at h3
      rw [h3]; push_cast; ring
    simp only at h1 h2
    simp only [Ideal.ieee, h1, h2, if_neg e1, if_neg e2, e3]
    congr 1
    have e4 : (((127 + n.log2 : ℕ) : ℤ) - (2 ^ (8 - 1) - 1) - (23 : ℕ)) = -((23 - n.log2 : ℕ) : ℤ) := by
      simp only at h4
      have : n.log2 ≤ 23 := by omega
      push_cast [this]; ring
    rw [e4, zpow_neg, zpow_natCast]
    have : (2 : ℝ) ^ (23 - n.log2) ≠ 0 := by positivity
    simp

/-- The first row of the printed grid table, word by word. -/
theorem lit0_row0 : ∀ q : Fin 4096, lit0 (S8x4096.rowMajor (ix2 0 q)) = pattern (q.val / 64) := by decide +kernel

/-- The first 128 words of its second row. -/
theorem lit0_row1 : ∀ q : Fin 128, lit0 (S8x4096.rowMajor (ix2 1 ⟨q.val, by omega⟩)) = pattern (q.val % 64) := by decide +kernel

/-- Row 0 of the grid table: the feature-map row of position `q`. -/
theorem grid0_apply (q : Fin 4096) :
    (V m c main_call0_cst : Vec Ideal S8x4096 .f32) (ix2 0 q) = ((((q.val / 64 : ℕ) : ℝ)) : EReal) := by
  unfold V
  after_reads_at
  rw [lit0_row0, ofBits_pattern _ (by omega)]

/-- Row 1 of the grid table, in its first 128 lanes: the feature-map column of position `q`. -/
theorem grid1_apply (q : Fin 128) :
    (V m c main_call0_cst : Vec Ideal S8x4096 .f32) (ix2 1 ⟨q.val, by omega⟩) = ((((q.val % 64 : ℕ) : ℝ)) : EReal) := by
  unfold V
  after_reads_at
  rw [lit0_row1, ofBits_pattern _ (by omega)]

end Cert.KernelIdeal.Tables

end
-- ==== Proof.Hat.lean ====
/-
  The mathematics of the certificate, over the real numbers alone: a row of hat weights picks out the linear
  interpolation between the two neighbouring samples, in one dimension and in two.
-/
module

public import Idealize.ShloMosaic.Lib.Pointwise

@[expose] public section

noncomputable section

namespace Cert.RoiAlign

/-- The hat function: `1 - |t|` cut off at zero. -/
def hat (t : ℝ) : ℝ := max (1 - |t|) 0

/-- A hat centred at a number within distance one of an integer `n` vanishes at every other integer outside the two
    neighbours. -/
theorem hat_eq_zero {t : ℝ} (h : 1 ≤ |t|) : hat t = 0 := max_eq_right (by linarith)

/-- Within distance one of the centre the hat function is `1 - |t|`. -/
theorem hat_of_le {t : ℝ} (h : |t| ≤ 1) : hat t = 1 - |t| := max_eq_left (by linarith)

/-- The number of whole samples at or before `y`, and at or after it, are ordered and at most one apart. -/
theorem floor_ceil_cases {y : ℝ} (hy : 0 ≤ y) :
    ((⌊y⌋₊ : ℝ) = y ∧ ⌈y⌉₊ = ⌊y⌋₊) ∨ (⌈y⌉₊ = ⌊y⌋₊ + 1 ∧ (⌊y⌋₊ : ℝ) < y ∧ y < ⌊y⌋₊ + 1) := by
  have h1 := Nat.floor_le hy
  have h2 := Nat.lt_floor_add_one y
  rcases h1.eq_or_lt with h | h
  · left
    refine ⟨h, ?_⟩
    rw [← h]; simp
  · right
    refine ⟨?_, h, h2⟩
    rw [Nat.ceil_eq_iff (by omega)]
    constructor
    · simpa using h
    · push_cast; exact h2.le

/-- One dimension: the hat weights at the integers below `n`, centred at `y` in `[0, n - 1]`, sum `f` to the linear
    interpolation between the samples on either side of `y`. -/
theorem sum_hat (n : ℕ) (y : ℝ) (hy : 0 ≤ y) (hn : y ≤ (n : ℝ) - 1) (f : ℕ → ℝ) :
    ∑ r ∈ Finset.range n, hat (y - r) * f r = f ⌊y⌋₊ + (f ⌈y⌉₊ - f ⌊y⌋₊) * (y - ⌊y⌋₊) := by
  have hfl : ⌊y⌋₊ < n := by
    have h := Nat.floor_le hy
    have : (⌊y⌋₊ : ℝ) < n := by linarith
    exact_mod_cast this
  rcases floor_ceil_cases hy with ⟨h, hc⟩ | ⟨hc, h1, h2⟩
  · rw [hc, Finset.sum_eq_single ⌊y⌋₊]
    · rw [h]; simp [hat]
    · intro r _ hr
      rw [hat_eq_zero, zero_mul]
      rw [← h]
      have : (1 : ℤ) ≤ |(⌊y⌋₊ : ℤ) - r| := Int.one_le_abs (by omega)
      exact_mod_cast this
    · intro h'; exact absurd (Finset.mem_range.2 hfl) h'
  · have hcn : ⌊y⌋₊ + 1 < n := by
      have : ((⌊y⌋₊ : ℕ) : ℝ) + 1 < n + 0 := by
        have : (⌊y⌋₊ : ℝ) < (n : ℝ) - 1 := by linarith
        linarith
      exact_mod_cast this
    rw [hc, ← Finset.sum_subset (s₁ := {⌊y⌋₊, ⌊y⌋₊ + 1})]
    · rw [Finset.sum_pair (by omega)]
      have e1 : hat (y - ⌊y⌋₊) = 1 - (y - ⌊y⌋₊) := by
        rw [hat_of_le, abs_of_nonneg] <;> [linarith; (rw [abs_of_nonneg] <;> linarith)]
      have e2 : hat (y - ((⌊y⌋₊ + 1 : ℕ) : ℝ)) = y - ⌊y⌋₊ := by
        push_cast
        rw [hat_of_le, abs_of_nonpos] <;> [ring; linarith; (rw [abs_of_nonpos] <;> linarith)]
      rw [e1, e2]; ring
    · intro r hr
      simp only [Finset.mem_insert, Finset.mem_singleton] at hr
      exact Finset.mem_range.2 (by omega)
    · intro r _ hr
      simp only [Finset.mem_insert, Finset.mem_singleton, not_or] at hr
      rw [hat_eq_zero, zero_mul]
      rcases Nat.lt_or_ge r ⌊y⌋₊ with h | h
      · have : (r : ℝ) + 1 ≤ ⌊y⌋₊ := by exact_mod_cast h
        rw [abs_of_nonneg] <;> linarith
      · have : (⌊y⌋₊ : ℝ) + 2 ≤ r := by exact_mod_cast (by omega : ⌊y⌋₊ + 2 ≤ r)
        rw [abs_of_nonpos] <;> linarith

/-- The bilinear interpolation of the samples `f` at the point `(y, x)`: between the two rows, of the interpolations
    along them. -/
def bilinear (f : ℕ → ℕ → ℝ) (y x : ℝ) : ℝ :=
  (f ⌊y⌋₊ ⌊x⌋₊ + (f ⌊y⌋₊ ⌈x⌉₊ - f ⌊y⌋₊ ⌊x⌋₊) * (x - ⌊x⌋₊))
    + ((f ⌈y⌉₊ ⌊x⌋₊ + (f ⌈y⌉₊ ⌈x⌉₊ - f ⌈y⌉₊ ⌊x⌋₊) * (x - ⌊x⌋₊))
      - (f ⌊y⌋₊ ⌊x⌋₊ + (f ⌊y⌋₊ ⌈x⌉₊ - f ⌊y⌋₊ ⌊x⌋₊) * (x - ⌊x⌋₊))) * (y - ⌊y⌋₊)

/-- Two dimensions, the samples laid out in one row of `4096 = 64 * 64`: the products of the hat weights sum `f` to its
    bilinear interpolation. -/
theorem sum_hat_hat (y x : ℝ) (hy : 0 ≤ y) (hy' : y ≤ 63) (hx : 0 ≤ x) (hx' : x ≤ 63) (f : ℕ → ℕ → ℝ) :
    ∑ k : Fin 4096, hat (y - (k.val / 64 : ℕ)) * hat (x - (k.val % 64 : ℕ)) * f (k.val / 64) (k.val % 64)
      = bilinear f y x := by
  have e : ∑ k : Fin 4096, hat (y - (k.val / 64 : ℕ)) * hat (x - (k.val % 64 : ℕ)) * f (k.val / 64) (k.val % 64)
      = ∑ r : Fin 64, ∑ s : Fin 64, hat (y - (r.val : ℕ)) * hat (x - (s.val : ℕ)) * f r.val s.val := by
    rw [← Finset.sum_product', Finset.univ_product_univ]
    refine (Fintype.sum_equiv (finProdFinEquiv (m := 64) (n := 64)) _ _ ?_).symm
    rintro ⟨r, s⟩
    have h1 : (finProdFinEquiv (r, s)).val / 64 = r.val := by
      simp only [finProdFinEquiv_apply_val]; omega
    have h2 : (finProdFinEquiv (r, s)).val % 64 = s.val := by
      simp only [finProdFinEquiv_apply_val]; omega
    rw [h1, h2]
  have row : ∀ r : Fin 64, ∑ s : Fin 64, hat (y - (r.val : ℕ)) * hat (x - (s.val : ℕ)) * f r.val s.val
      = hat (y - (r.val : ℕ)) * (f r.val ⌊x⌋₊ + (f r.val ⌈x⌉₊ - f r.val ⌊x⌋₊) * (x - ⌊x⌋₊)) := by
    intro r
    rw [← sum_hat 64 x hx (by norm_num; exact hx') (fun s => f r.val s), Finset.mul_sum,
      Finset.sum_range (fun s => hat (y - (r.val : ℕ)) * (hat (x - (s : ℕ)) * f r.val s))]
    exact Finset.sum_congr rfl fun s _ => mul_assoc _ _ _
  rw [e, Finset.sum_congr rfl fun r _ => row r,
    ← Finset.sum_range (fun r : ℕ => hat (y - (r : ℕ)) * (f r ⌊x⌋₊ + (f r ⌈x⌉₊ - f r ⌊x⌋₊) * (x - ⌊x⌋₊))),
    sum_hat 64 y hy (by norm_num; exact hy') (fun r => f r ⌊x⌋₊ + (f r ⌈x⌉₊ - f r ⌊x⌋₊) * (x - ⌊x⌋₊))]
  rfl

/-- The `p`-th of the seven sample positions between the box edges `a` and `b`, which are given in pixels of an image of
side 1024, in units of the 64 rows (or columns) of the feature map. -/
def sample (a b : ℝ) (p : ℕ) : ℝ := (a / 1024 + (b / 1024 - a / 1024) * (p / 6)) * 63

/-- A sample position as a weighted sum of the two edges. -/
theorem sample_weights (a b : ℝ) (p : ℕ) :
    sample a b p = a * ((1 - (p : ℝ) / 6) * (63 / 1024)) + b * ((p : ℝ) / 6 * (63 / 1024)) := by
  unfold sample
  ring

/-- Between edges that lie in the image, every sample position lies in the feature map. -/
theorem sample_mem {a b : ℝ} (ha : 0 ≤ a) (ha' : a ≤ 1024) (hb : 0 ≤ b) (hb' : b ≤ 1024) {p : ℕ} (hp : p < 7) :
    0 ≤ sample a b p ∧ sample a b p ≤ 63 := by
  have h0 : (0 : ℝ) ≤ (p : ℝ) / 6 := by positivity
  have h1 : (p : ℝ) / 6 ≤ 1 := by
    rw [div_le_one (by norm_num)]
    exact_mod_cast Nat.le_of_lt_succ hp
  have h2 : 0 ≤ 1 - (p : ℝ) / 6 := by linarith
  rw [sample_weights]
  constructor
  · positivity
  · nlinarith [mul_le_mul_of_nonneg_right ha' h2, mul_le_mul_of_nonneg_right hb' h0]

end Cert.RoiAlign

end
-- ==== Proof.Equation.lean ====
/-
  The equation: over real features and a box with real corners in the image, the kernel's weighted sum of cells is the
  bilinear interpolation at the sample point.
-/
module

public import proofs.«01_k».proof.Proof.Array
public import proofs.«01_k».proof.Proof.Tables
public import proofs.«01_k».proof.Proof.Hat

@[expose] public section

set_option maxRecDepth 16384

noncomputable section

namespace Cert.KernelIdeal.Equation

open Cert.KernelIdeal Cert.KernelIdeal.Gen Cert.KernelIdeal.Block Cert.KernelIdeal.Array Cert.RoiAlign
open Idealize.ShloMosaic Idealize.ShloMosaic.TcCoe Idealize.SL.Sem

/-- The kernel's weight between two real positions is the hat function of their distance. -/
theorem hatE_coe (a b : ℝ) : hatE (a : EReal) (b : EReal) = ((hat (a - b) : ℝ) : EReal) := by
  have hmax : ∀ u v : ℝ, max (u : EReal) (v : EReal) = ((max u v : ℝ) : EReal) := fun _ _ => (EReal.coe_strictMono.monotone.map_max).symm
  unfold hatE hat
  rw [← EReal.coe_sub, ← EReal.coe_neg, hmax, ← EReal.coe_one, ← EReal.coe_sub, ← EReal.coe_zero, hmax]
  rfl

/-- A finite sum of real numbers, summed as extended reals. -/
theorem sum_coe {n : ℕ} (g : Fin n → ℝ) : (∑ q : Fin n, ((g q : ℝ) : EReal)) = ((∑ q : Fin n, g q : ℝ) : EReal) :=
  (map_sum (⟨⟨Real.toEReal, EReal.coe_zero⟩, EReal.coe_add⟩ : ℝ →+ EReal) g Finset.univ).symm

/-- The kernel's sum at real features, real box corners and the two constant tables: the bilinear interpolation. -/
theorem cellSum_real (x0 : Vec Ideal S2x4096x256 .bf16) (x1 : Vec Ideal S2x1000x5 .f32) (x2 : Vec Ideal S1600x8 .f32)
    (x3 : Vec Ideal S8x4096 .f32) (b : Fin 2) (r : Fin 1000) (i j : Fin 7) (ch : Fin 256) (f : ℕ → ℕ → ℝ) (y1 x1' y2 x2' : ℝ)
    (hf : ∀ q : Fin 4096, x0 (ix3 b q ch) = ((f (q.val / 64) (q.val % 64) : ℝ) : EReal))
    (h0 : x1 (ix3 b r 0) = (y1 : EReal)) (h1 : x1 (ix3 b r 1) = (x1' : EReal))
    (h2 : x1 (ix3 b r 2) = (y2 : EReal)) (h3 : x1 (ix3 b r 3) = (x2' : EReal))
    (c0 : ∀ l : Fin 1600, l.val < 1400 → x2 (ix2 l 0) = (((1 - ((l.val % 7 : ℕ) : ℝ) / 6) * (63 / 1024) : ℝ) : EReal))
    (c1 : ∀ l : Fin 1600, l.val < 1400 → x2 (ix2 l 1) = ((((l.val % 7 : ℕ) : ℝ) / 6 * (63 / 1024) : ℝ) : EReal))
    (c2 : ∀ l : Fin 1600, l.val % 8 < 7 → x2 (ix2 l 2) = (((1 - ((l.val % 8 : ℕ) : ℝ) / 6) * (63 / 1024) : ℝ) : EReal))
    (c3 : ∀ l : Fin 1600, l.val % 8 < 7 → x2 (ix2 l 3) = ((((l.val % 8 : ℕ) : ℝ) / 6 * (63 / 1024) : ℝ) : EReal))
    (c4 : ∀ l : Fin 1600, l.val % 8 < 7 → x2 (ix2 l 4) = (0 : EReal))
    (g0 : ∀ q : Fin 4096, x3 (ix2 0 q) = (((q.val / 64 : ℕ) : ℝ) : EReal))
    (g1 : ∀ q : Fin 128, x3 (ix2 1 ⟨q.val, by omega⟩) = (((q.val % 64 : ℕ) : ℝ) : EReal))
    (hy : 0 ≤ sample y1 y2 i.val ∧ sample y1 y2 i.val ≤ 63) (hx : 0 ≤ sample x1' x2' j.val ∧ sample x1' x2' j.val ≤ 63) :
    cellSum x0 x1 x2 x3 b r i j ch = ((bilinear f (sample y1 y2 i.val) (sample x1' x2' j.val) : ℝ) : EReal) := by
  have ei : (7 * (r.val % 200) + i.val) % 7 = i.val := by omega
  have ej : (8 * (r.val % 200) + j.val) % 8 = j.val := by omega
  have d0 := c0 ⟨7 * (r.val % 200) + i.val, by omega⟩ (by show 7 * (r.val % 200) + i.val < 1400; omega)
  have d1 := c1 ⟨7 * (r.val % 200) + i.val, by omega⟩ (by show 7 * (r.val % 200) + i.val < 1400; omega)
  have hj : (8 * (r.val % 200) + j.val) % 8 < 7 := by omega
  have d2 := c2 ⟨8 * (r.val % 200) + j.val, by omega⟩ hj
  have d3 := c3 ⟨8 * (r.val % 200) + j.val, by omega⟩ hj
  have d4 := c4 ⟨8 * (r.val % 200) + j.val, by omega⟩ hj
  simp only [ei] at d0 d1
  simp only [ej] at d2 d3
  have hY : (y1 : EReal) * (((1 - (i.val : ℝ) / 6) * (63 / 1024) : ℝ) : EReal) + (y2 : EReal) * (((i.val : ℝ) / 6 * (63 / 1024) : ℝ) : EReal)
      = ((sample y1 y2 i.val : ℝ) : EReal) := by
    rw [sample_weights, EReal.coe_add, EReal.coe_mul y1, EReal.coe_mul y2]
  have hX : (x1' : EReal) * (((1 - (j.val : ℝ) / 6) * (63 / 1024) : ℝ) : EReal) + (x2' : EReal) * (((j.val : ℝ) / 6 * (63 / 1024) : ℝ) : EReal)
      + 0 = ((sample x1' x2' j.val : ℝ) : EReal) := by
    rw [sample_weights, EReal.coe_add, EReal.coe_mul x1', EReal.coe_mul x2', add_zero]
  rw [← sum_hat_hat _ _ hy.1 hy.2 hx.1 hx.2 f, ← sum_coe]
  unfold cellSum
  refine Finset.sum_congr rfl fun q _ => ?_
  have e1 := g1 ⟨q.val % 128, by omega⟩
  have eq : q.val % 128 % 64 = q.val % 64 := by omega
  simp only [eq] at e1
  rw [h0, h1, h2, h3, d0, d1, d2, d3, d4, hY, hX, g0, e1, hf, hatE_coe, hatE_coe, ← EReal.coe_mul, ← EReal.coe_mul]

end Cert.KernelIdeal.Equation

end
-- ==== Proof.Corner.lean ====
/-
  The reference's four gathers, as one function of the row and column indices: a gather of in-range indices reads the
  pixel they name.
-/
module

public import proofs.«01_k».proof.Proof.Gen.ReferenceIdeal.Read
public import Idealize.ShloMosaic.Lib.Pointwise
public import Idealize.ShloMosaic.Lib.DynamicIndex

@[expose] public section

set_option maxRecDepth 16384

noncomputable section

namespace Cert.ReferenceIdeal.Corner

open Cert.ReferenceIdeal Cert.ReferenceIdeal.Gen Cert.ReferenceIdeal.Read Idealize.ShloMosaic Idealize.ShloMosaic.TcCoe Idealize.SL.Sem

/-- An index array with negative entries counted from the end of an axis of `n`. -/
def wrap {s : Shape} (h : S_.BroadcastsInDim s ![]) (n : BitVec 32) (x : IVec s 32) : IVec s 32 :=
  select (cmpi .slt x (broadcastInDim s ![] h (constantI S_ 32 0#32))) (addi x (broadcastInDim s ![] h (constantI S_ 32 n))) x

/-- The gathered pixels: image `n / 1000` of the flat box number `n`, row `Y n i`, column `X n j`. -/
def corner (x0 : FVec Ideal S2x64x64x256 .f32) (Y X : IVec S2000x7 32) : FVec Ideal S2000x7x7x256 .f32 :=
  have b : IVec S2000x1x1 32 := wrap bcast_S_S2000x1x1 2#32 (val_main_v67 (F := Ideal))
  have y : IVec S2000x7x1 32 := wrap bcast_S_S2000x7x1 64#32 (broadcastInDim S2000x7x1 ![0, 1] bcast_S2000x7_S2000x7x1_0_1 Y)
  have x : IVec S2000x1x7 32 := wrap bcast_S_S2000x1x7 64#32 (broadcastInDim S2000x1x7 ![0, 2] bcast_S2000x7_S2000x1x7_0_2 X)
  have b' : IVec S2000x7x7x1 32 := broadcastInDim S2000x7x7x1 ![0, 1, 2] bcast_S2000x7x7_S2000x7x7x1_0_1_2 (broadcastInDim S2000x7x7 ![0, 1, 2] bcast_S2000x1x1_S2000x7x7_0_1_2 b)
  have y' : IVec S2000x7x7x1 32 := broadcastInDim S2000x7x7x1 ![0, 1, 2] bcast_S2000x7x7_S2000x7x7x1_0_1_2 (broadcastInDim S2000x7x7 ![0, 1, 2] bcast_S2000x7x1_S2000x7x7_0_1_2 y)
  have x' : IVec S2000x7x7x1 32 := broadcastInDim S2000x7x7x1 ![0, 1, 2] bcast_S2000x7x7_S2000x7x7x1_0_1_2 (broadcastInDim S2000x7x7 ![0, 1, 2] bcast_S2000x1x7_S2000x7x7_0_1_2 x)
  have idx : IVec S2000x7x7x3 32 := concatenate S2000x7x7x3 3 [⟨S2000x7x7x1, b'⟩, ⟨S2000x7x7x1, y'⟩, ⟨S2000x7x7x1, x'⟩] concatenates_S2000x7x7x1_S2000x7x7x1_S2000x7x7x1_S2000x7x7x3_d3
  Host.gather gather_S2x64x64x256_S2000x7x7x3_S2000x7x7x256_3_012_n_n_012_3_111256 x0 idx

/-! The four gathers: rows from the floor or the ceiling of the y coordinates, columns likewise. -/

/-- The first corner read: upper row, left column. -/
theorem v92_eq (x0 : FVec Ideal S2x64x64x256 .f32) (x1 : FVec Ideal S2x1000x5 .f32) :
    val_main_v92 (F := Ideal) x0 x1 = corner x0 (val_main_v58 (F := Ideal) x1) (val_main_v63 (F := Ideal) x1) := rfl
/-- The second corner read: upper row, right column. -/
theorem v117_eq (x0 : FVec Ideal S2x64x64x256 .f32) (x1 : FVec Ideal S2x1000x5 .f32) :
    val_main_v117 (F := Ideal) x0 x1 = corner x0 (val_main_v58 (F := Ideal) x1) (val_main_v66 (F := Ideal) x1) := rfl
/-- The third corner read: lower row, left column. -/
theorem v142_eq (x0 : FVec Ideal S2x64x64x256 .f32) (x1 : FVec Ideal S2x1000x5 .f32) :
    val_main_v142 (F := Ideal) x0 x1 = corner x0 (val_main_v61 (F := Ideal) x1) (val_main_v63 (F := Ideal) x1) := rfl
/-- The fourth corner read: lower row, right column. -/
theorem v167_eq (x0 : FVec Ideal S2x64x64x256 .f32) (x1 : FVec Ideal S2x1000x5 .f32) :
    val_main_v167 (F := Ideal) x0 x1 = corner x0 (val_main_v61 (F := Ideal) x1) (val_main_v66 (F := Ideal) x1) := rfl

/-- A small number, read back as a signed word. -/
theorem toNat_small (k : ℕ) (hk : k < 64) : (BitVec.ofNat 32 k).toInt.toNat = k := by interval_cases k <;> rfl

/-- The gather at an index, of an index array known there: the three words, read as signed numbers and clamped into the
    array, name the pixel. -/
theorem gather_apply (x0 : FVec Ideal S2x64x64x256 .f32) (idx : IVec S2000x7x7x3 32) (n : Fin 2000) (i j : Fin 7) (c : Fin 256)
    (b : Fin 2) (y x : Fin 64) (hb : idx (ix4 n i j 0) = BitVec.ofNat 32 b.val) (hy : idx (ix4 n i j 1) = BitVec.ofNat 32 y.val)
    (hx : idx (ix4 n i j 2) = BitVec.ofNat 32 x.val) :
    Host.gather gather_S2x64x64x256_S2000x7x7x3_S2000x7x7x256_3_012_n_n_012_3_111256 x0 idx (ix4 n i j c) = x0 (ix4 b y x c) := by
  show x0 _ = x0 _
  refine congrArg x0 (funext fun a => Fin.ext ?_)
  have hi : ∀ k : Fin 3, gather_S2x64x64x256_S2000x7x7x3_S2000x7x7x256_3_012_n_n_012_3_111256.siIdx (ix4 n i j c) k = ix4 n i j k := by
    intro k
    funext a
    change Fin 4 at a
    fin_cases a <;> rfl
  change Fin 4 at a
  fin_cases a
  · show min (idx (gather_S2x64x64x256_S2000x7x7x3_S2000x7x7x256_3_012_n_n_012_3_111256.siIdx (ix4 n i j c) (0 : Fin 3))).toInt.toNat 1 = b.val
    rw [hi, hb, toNat_small b.val (by omega)]
    omega
  · show min (idx (gather_S2x64x64x256_S2000x7x7x3_S2000x7x7x256_3_012_n_n_012_3_111256.siIdx (ix4 n i j c) (1 : Fin 3))).toInt.toNat 63 = y.val
    rw [hi, hy, toNat_small y.val (by omega)]
    omega
  · show min (idx (gather_S2x64x64x256_S2000x7x7x3_S2000x7x7x256_3_012_n_n_012_3_111256.siIdx (ix4 n i j c) (2 : Fin 3))).toInt.toNat 63 = x.val
    rw [hi, hx, toNat_small x.val (by omega)]
    omega
  · show 0 + c.val = c.val
    omega

/-- A small number is not counted from the end. -/
theorem wrap_small (n : BitVec 32) (k : ℕ) (hk : k < 64) :
    Scalar.select (IntOp.cmpi CmpIPredicate.slt (BitVec.ofNat 32 k) 0#32) (IntOp.addi (BitVec.ofNat 32 k) n) (BitVec.ofNat 32 k)
      = BitVec.ofNat 32 k := by
  have h : IntOp.cmpi CmpIPredicate.slt (BitVec.ofNat 32 k) 0#32 = 0#1 := by interval_cases k <;> rfl
  rw [h]
  rfl

/-- A corner at an index, the row and column indices known there. -/
theorem corner_apply (x0 : FVec Ideal S2x64x64x256 .f32) (Y X : IVec S2000x7 32) (n : Fin 2000) (i j : Fin 7) (c : Fin 256)
    (y x : Fin 64) (hy : Y (ix2 n i) = BitVec.ofNat 32 y.val) (hx : X (ix2 n j) = BitVec.ofNat 32 x.val) :
    corner x0 Y X (ix4 n i j c) = x0 (ix4 ⟨n.val / 1000, by omega⟩ y x c) := by
  rw [corner]
  refine gather_apply x0 _ n i j c _ y x ?_ ?_ ?_
  · pointwise [wrap, val_main_v67, val_main_v5, val_main_v4, val_main_v3]
    exact wrap_small _ _ (by omega)
  · pointwise [wrap]
    rw [hy]
    exact wrap_small _ _ (by omega)
  · pointwise [wrap]
    rw [hx]
    exact wrap_small _ _ (by omega)

end Cert.ReferenceIdeal.Corner

end
-- ==== Proof.RefValue.lean ====
/-
  What the reference computes, at an index, when the features and the box corners are real numbers and the box lies in
  the image: the bilinear interpolation of the features at the sample point.
-/
module

public import proofs.«01_k».proof.Proof.Corner
public import proofs.«01_k».proof.Proof.Hat

@[expose] public section

set_option maxRecDepth 16384

noncomputable section

namespace Cert.ReferenceIdeal.RefValue

open Cert.ReferenceIdeal Cert.ReferenceIdeal.Gen Cert.ReferenceIdeal.Read Idealize.ShloMosaic Idealize.ShloMosaic.TcCoe Idealize.SL.Sem
open Cert.RoiAlign Cert.ReferenceIdeal.Corner

/-- The word 0x44800000 is 1024. -/
theorem bits_1024 : Ideal.ofBits FTy.f32 1149239296#32 = ((1024 : ℝ) : EReal) := by
  simp [Ideal.ofBits, Ideal.ieee, -EReal.coe_mul]; norm_num

/-- The word 0x40C00000 is 6. -/
theorem bits_6 : Ideal.ofBits FTy.f32 1086324736#32 = ((6 : ℝ) : EReal) := by
  simp [Ideal.ofBits, Ideal.ieee, -EReal.coe_mul]; norm_num

/-- The word 0x427C0000 is 63. -/
theorem bits_63 : Ideal.ofBits FTy.f32 1115422720#32 = ((63 : ℝ) : EReal) := by
  simp [Ideal.ofBits, Ideal.ieee, -EReal.coe_mul]; norm_num

/-- The position counter, as a real number. -/
theorem counter (p : Fin 7) : FloatOps.sitofp (F := Ideal) FTy.f32 (BitVec.ofNat 32 p.val) = ((p.val : ℝ) : EReal) := by
  have h : ∀ p : Fin 7, (BitVec.ofNat 32 p.val).toInt = (p.val : ℤ) := by decide
  show (((BitVec.toInt _ : ℤ) : ℝ) : EReal) = _
  rw [h]
  rfl

/-- The scalar chain from two box edges to a sample position, at real edges. -/
theorem sample_chain (a b : ℝ) (p : Fin 7) :
    (Ideal.div (a : EReal) (Ideal.ofBits FTy.f32 1149239296#32) +
        (Ideal.div (b : EReal) (Ideal.ofBits FTy.f32 1149239296#32) - Ideal.div (a : EReal) (Ideal.ofBits FTy.f32 1149239296#32)) *
          Ideal.div (FloatOps.sitofp (F := Ideal) FTy.f32 (BitVec.ofNat 32 p.val)) (Ideal.ofBits FTy.f32 1086324736#32)) *
      Ideal.ofBits FTy.f32 1115422720#32 = ((sample a b p.val : ℝ) : EReal) := by
  rw [counter, bits_1024, bits_6, bits_63]
  simp only [Ideal.div_coe (by norm_num : (1024 : ℝ) ≠ 0), Ideal.div_coe (by norm_num : (6 : ℝ) ≠ 0)]
  norm_cast
  unfold sample
  congr 1
  ring

/-- The reference's sample row, at real box edges. -/
theorem iny_eq (x1 : FVec Ideal S2x1000x5 .f32) (n : Fin 2000) (i : Fin 7) (a b : ℝ)
    (ha : x1 (ix3 ⟨n.val / 1000, by omega⟩ ⟨n.val % 1000, by omega⟩ 0) = (a : EReal))
    (hb : x1 (ix3 ⟨n.val / 1000, by omega⟩ ⟨n.val % 1000, by omega⟩ 2) = (b : EReal)) :
    val_main_v31 (F := Ideal) x1 (ix2 n i) = ((sample a b i.val : ℝ) : EReal) := by
  pointwise [val_main_v31, val_main_v30, val_main_v29, val_main_v28, val_main_v27, val_main_v26, val_main_v25, val_main_v24, val_main_v23, val_main_v22, val_main_v21, val_main_v17, val_main_v16, val_main_v15, val_main_v12, val_main_v11, val_main_v8, val_main_v7, val_main_v6, val_main_v2, val_main_v1, val_main_v0, val_main_cst, val_main_cst_0, val_main_cst_2]
  rw [ha, hb]
  exact sample_chain a b i

/-- The reference's sample column, at real box edges. -/
theorem inx_eq (x1 : FVec Ideal S2x1000x5 .f32) (n : Fin 2000) (j : Fin 7) (a b : ℝ)
    (ha : x1 (ix3 ⟨n.val / 1000, by omega⟩ ⟨n.val % 1000, by omega⟩ 1) = (a : EReal))
    (hb : x1 (ix3 ⟨n.val / 1000, by omega⟩ ⟨n.val % 1000, by omega⟩ 3) = (b : EReal)) :
    val_main_v42 (F := Ideal) x1 (ix2 n j) = ((sample a b j.val : ℝ) : EReal) := by
  pointwise [val_main_v42, val_main_v41, val_main_v40, val_main_v39, val_main_v38, val_main_v37, val_main_v36, val_main_v35, val_main_v34, val_main_v33, val_main_v32, val_main_v20, val_main_v19, val_main_v18, val_main_v14, val_main_v13, val_main_v10, val_main_v9, val_main_v6, val_main_v2, val_main_v1, val_main_v0, val_main_cst, val_main_cst_1, val_main_cst_3]
  rw [ha, hb]
  exact sample_chain a b j

/-- A natural number up to 63, clipped to [0, 63] and converted to a word, is the word of the number. -/
theorem clip_word (k : ℕ) (hk : k ≤ 63) :
    FloatOps.fptosi (F := Ideal) (φ := FTy.f32) 32 (min (FloatOps.sitofp (F := Ideal) FTy.f32 63#32)
        (max (FloatOps.sitofp (F := Ideal) FTy.f32 0#32) (((k : ℝ)) : EReal))) = BitVec.ofNat 32 k := by
  have h63 : FloatOps.sitofp (F := Ideal) FTy.f32 63#32 = ((63 : ℝ) : EReal) := by
    show (((BitVec.toInt _ : ℤ) : ℝ) : EReal) = _
    rw [(by decide : (63#32).toInt = 63)]
    norm_num
  have h0 : FloatOps.sitofp (F := Ideal) FTy.f32 0#32 = ((0 : ℝ) : EReal) := by
    show (((BitVec.toInt _ : ℤ) : ℝ) : EReal) = _; norm_num
  have hk' : (k : ℝ) ≤ 63 := by exact_mod_cast hk
  rw [h63, h0, max_eq_right (EReal.coe_le_coe_iff.2 (Nat.cast_nonneg k)), min_eq_right (EReal.coe_le_coe_iff.2 hk')]
  show BitVec.ofInt 32 (Ideal.toIntClamped _ _ _) = _
  rw [Ideal.toIntClamped_coe, if_pos (Nat.cast_nonneg k), Int.floor_natCast, min_eq_right (by norm_num; omega),
    max_eq_right (by norm_num)]
  exact BitVec.ofInt_natCast 32 k

/-- The floor of a nonnegative real number, as a natural number. -/
theorem floor_coe {y : ℝ} (hy : 0 ≤ y) : Ideal.liftRound Int.floor (y : EReal) = (((⌊y⌋₊ : ℕ) : ℝ) : EReal) := by
  rw [Ideal.liftRound_coe]
  congr 1
  exact_mod_cast (Int.natCast_floor_eq_floor hy).symm

/-- The ceiling of a nonnegative real number, as a natural number. -/
theorem ceil_coe {y : ℝ} (hy : 0 ≤ y) : Ideal.liftRound Int.ceil (y : EReal) = (((⌈y⌉₊ : ℕ) : ℝ) : EReal) := by
  rw [Ideal.liftRound_coe]
  congr 1
  exact_mod_cast (Int.natCast_ceil_eq_ceil hy).symm

/-- The floor of a position in the feature map is one of its 64 rows. -/
theorem floor_lt {y : ℝ} (hy : 0 ≤ y) (hy' : y ≤ 63) : ⌊y⌋₊ < 64 := by
  rw [Nat.floor_lt hy]; norm_num; linarith

/-- The ceiling of a position in the feature map is one of its 64 rows. -/
theorem ceil_lt {y : ℝ} (hy' : y ≤ 63) : ⌈y⌉₊ < 64 := Nat.lt_succ_of_le (Nat.ceil_le.2 (by exact_mod_cast hy'))

section words
variable (x1 : FVec Ideal S2x1000x5 .f32) (n : Fin 2000) (i : Fin 7) {y : ℝ} (hy : 0 ≤ y) (hy' : y ≤ 63)
include hy hy'

/-- The upper row of a sample point. -/
theorem row_lo (h : val_main_v31 (F := Ideal) x1 (ix2 n i) = (y : EReal)) :
    val_main_v58 (F := Ideal) x1 (ix2 n i) = BitVec.ofNat 32 ⌊y⌋₊ := by
  pointwise [val_main_v58, val_main_v57, val_main_v53, val_main_call0_v0, val_main_call0_v1, val_main_call0_v2, val_main_call0_v3, val_main_call0_v4, val_main_c, val_main_c_8]
  rw [h, floor_coe hy]
  exact clip_word _ (Nat.le_of_lt_succ (floor_lt hy hy'))

/-- The lower row of a sample point. -/
theorem row_hi (h : val_main_v31 (F := Ideal) x1 (ix2 n i) = (y : EReal)) :
    val_main_v61 (F := Ideal) x1 (ix2 n i) = BitVec.ofNat 32 ⌈y⌉₊ := by
  pointwise [val_main_v61, val_main_v60, val_main_v59, val_main_call1_v0, val_main_call1_v1, val_main_call1_v2, val_main_call1_v3, val_main_call1_v4, val_main_c_9, val_main_c_10]
  rw [h, ceil_coe hy]
  exact clip_word _ (Nat.le_of_lt_succ (ceil_lt hy'))

/-- The left column of a sample point. -/
theorem col_lo (h : val_main_v42 (F := Ideal) x1 (ix2 n i) = (y : EReal)) :
    val_main_v63 (F := Ideal) x1 (ix2 n i) = BitVec.ofNat 32 ⌊y⌋₊ := by
  pointwise [val_main_v63, val_main_v62, val_main_v54, val_main_call2_v0, val_main_call2_v1, val_main_call2_v2, val_main_call2_v3, val_main_call2_v4, val_main_c_11, val_main_c_12]
  rw [h, floor_coe hy]
  exact clip_word _ (Nat.le_of_lt_succ (floor_lt hy hy'))

/-- The right column of a sample point. -/
theorem col_hi (h : val_main_v42 (F := Ideal) x1 (ix2 n i) = (y : EReal)) :
    val_main_v66 (F := Ideal) x1 (ix2 n i) = BitVec.ofNat 32 ⌈y⌉₊ := by
  pointwise [val_main_v66, val_main_v65, val_main_v64, val_main_call3_v0, val_main_call3_v1, val_main_call3_v2, val_main_call3_v3, val_main_call3_v4, val_main_c_13, val_main_c_14]
  rw [h, ceil_coe hy]
  exact clip_word _ (Nat.le_of_lt_succ (ceil_lt hy'))

/-- A position in the feature map passes the test of lying in it. -/
theorem inside : IntOp.andi (BitVec.ofBool (decide ((0 : EReal) ≤ (y : EReal))))
    (BitVec.ofBool (decide ((y : EReal) ≤ Ideal.ofBits FTy.f32 1115422720#32))) = 1#1 := by
  rw [bits_63, decide_eq_true (by exact_mod_cast hy : (0 : EReal) ≤ (y : EReal)),
    decide_eq_true (EReal.coe_le_coe_iff.2 hy')]
  rfl

end words

/-- The reference at an index: on a real image and a box with real corners in the image, the bilinear interpolation of
the image at the sample point. -/
theorem value (x0 : FVec Ideal S2x64x64x256 .f32) (x1 : FVec Ideal S2x1000x5 .f32) (b : Fin 2) (r : Fin 1000) (i j : Fin 7)
    (c : Fin 256) (f : ℕ → ℕ → ℝ) (y1 x1' y2 x2 : ℝ)
    (hf : ∀ u v : Fin 64, x0 (ix4 b u v c) = ((f u.val v.val : ℝ) : EReal))
    (h0 : x1 (ix3 b r 0) = (y1 : EReal)) (h1 : x1 (ix3 b r 1) = (x1' : EReal))
    (h2 : x1 (ix3 b r 2) = (y2 : EReal)) (h3 : x1 (ix3 b r 3) = (x2 : EReal))
    (hy : 0 ≤ sample y1 y2 i.val ∧ sample y1 y2 i.val ≤ 63) (hx : 0 ≤ sample x1' x2 j.val ∧ sample x1' x2 j.val ≤ 63) :
    val_main_v189 (F := Ideal) x0 x1 (ix5 b r i j c) = ((bilinear f (sample y1 y2 i.val) (sample x1' x2 j.val) : ℝ) : EReal) := by
  have hb : ∀ h : (b.val * 1000 + r.val) / 1000 < 2, (⟨(b.val * 1000 + r.val) / 1000, h⟩ : Fin 2) = b := fun h => Fin.ext (by show (b.val * 1000 + r.val) / 1000 = b.val; omega)
  have hr : ∀ h : (b.val * 1000 + r.val) % 1000 < 1000, (⟨(b.val * 1000 + r.val) % 1000, h⟩ : Fin 1000) = r := fun h => Fin.ext (by show (b.val * 1000 + r.val) % 1000 = r.val; omega)
  have ey := iny_eq x1 ⟨b.val * 1000 + r.val, by omega⟩ i y1 y2 (by rw [hb, hr, h0]) (by rw [hb, hr, h2])
  have ex := inx_eq x1 ⟨b.val * 1000 + r.val, by omega⟩ j x1' x2 (by rw [hb, hr, h1]) (by rw [hb, hr, h3])
  generalize sample y1 y2 i.val = y at *
  generalize sample x1' x2 j.val = x at *
  have c00 := corner_apply x0 _ _ ⟨b.val * 1000 + r.val, by omega⟩ i j c ⟨_, floor_lt hy.1 hy.2⟩ ⟨_, floor_lt hx.1 hx.2⟩ (row_lo x1 _ i hy.1 hy.2 ey) (col_lo x1 _ j hx.1 hx.2 ex)
  have c01 := corner_apply x0 _ _ ⟨b.val * 1000 + r.val, by omega⟩ i j c ⟨_, floor_lt hy.1 hy.2⟩ ⟨_, ceil_lt hx.2⟩ (row_lo x1 _ i hy.1 hy.2 ey) (col_hi x1 _ j hx.1 hx.2 ex)
  have c10 := corner_apply x0 _ _ ⟨b.val * 1000 + r.val, by omega⟩ i j c ⟨_, ceil_lt hy.2⟩ ⟨_, floor_lt hx.1 hx.2⟩ (row_hi x1 _ i hy.1 hy.2 ey) (col_lo x1 _ j hx.1 hx.2 ex)
  have c11 := corner_apply x0 _ _ ⟨b.val * 1000 + r.val, by omega⟩ i j c ⟨_, ceil_lt hy.2⟩ ⟨_, ceil_lt hx.2⟩ (row_hi x1 _ i hy.1 hy.2 ey) (col_hi x1 _ j hx.1 hx.2 ex)
  rw [hb, hf] at c00 c01 c10 c11
  rw [← v92_eq] at c00
  rw [← v117_eq] at c01
  rw [← v142_eq] at c10
  rw [← v167_eq] at c11
  pointwise [val_main_v189, val_main_v188, val_main_call4_v0, val_main_call4_v1, val_main_cst_39, val_main_v187, val_main_v186, val_main_v185, val_main_v184, val_main_v183, val_main_v182,
    val_main_v52, val_main_v51, val_main_v50, val_main_v49, val_main_v48, val_main_v47, val_main_v46, val_main_v45, val_main_v44, val_main_v43, val_main_cst_4, val_main_cst_5, val_main_cst_6, val_main_cst_7,
    val_main_v181, val_main_v180, val_main_v179, val_main_v178, val_main_v177, val_main_v176, val_main_v175, val_main_v174, val_main_v173, val_main_v172, val_main_v171, val_main_v170, val_main_v169, val_main_v168,
    val_main_v56, val_main_v55, val_main_v54, val_main_v53]
  rw [ey, ex, inside hy.1 hy.2, inside hx.1 hx.2, floor_coe hy.1, floor_coe hx.1, c00, c01, c10, c11]
  show (_ : EReal) = _
  unfold bilinear
  norm_cast

end Cert.ReferenceIdeal.RefValue

end
-- ==== Proof.Inputs.lean ====
/-
  What the precondition says of the arguments: every feature is a real number, and every box corner is a real number
  between 0 and 1024.
-/
module

public import proofs.«01_k».proof.Pre_rois_in_image
public import Idealize.ShloMosaic.Lib.Pointwise
public import Idealize.ShloMosaic.Lib.StableHlo.Predicate

@[expose] public section

set_option maxRecDepth 16384

noncomputable section

namespace Cert.Pre_rois_in_image.Inputs

open Cert.Pre_rois_in_image Idealize.ShloMosaic

/-- The side conditions of the precondition's operations. -/
theorem facts : Facts where
  slices_S2x1000x5_S2x1000x4_0_0_0 := by decide
  bcast_S_S2x64x64x256 := by decide
  bcast_S_S2x1000x4 := by decide

/-- The word 0x7F800000 is plus infinity. -/
theorem bits_top : Ideal.ofBits FTy.f32 0x7F800000#32 = (⊤ : EReal) := by
  simp [Ideal.ofBits, Ideal.ieee]

/-- The word 0x44800000 is 1024. -/
theorem bits_1024 : Ideal.ofBits FTy.f32 0x44800000#32 = ((1024 : ℝ) : EReal) := by
  simp [Ideal.ofBits, Ideal.ieee, -EReal.coe_mul]; norm_num

variable [Facts] (x0 : FVec Ideal S2x64x64x256 .f32) (x1 : FVec Ideal S2x1000x5 .f32)

/-- Every feature is a real number. -/
theorem feature_real (h : (fn (F := Ideal) x0 x1).1 = fun _ => 1#1) (b : Fin 2) (u v : Fin 64) (ch : Fin 256) :
    x0 (ix4 b u v ch) = (((x0 (ix4 b u v ch) : EReal).toReal : ℝ) : EReal) := by
  have e := congrFun h (ix4 b u v ch)
  revert e
  unfold fn
  pointwise
  generalize x0 (ix4 b u v ch) = x
  intro e
  have hlt : max (x : EReal) (-x) < (⊤ : EReal) := by
    rw [← bits_top]
    exact of_decide_eq_true ((StableHlo.Predicate.ofBool_eq_one_iff _).1 e)
  refine (EReal.coe_toReal (fun hx => ?_) (fun hx => ?_)).symm
  · rw [hx] at hlt
    simp at hlt
  · rw [hx] at hlt
    simp at hlt

/-- Every box corner is a real number between 0 and 1024. -/
theorem corner_real (h : (fn (F := Ideal) x0 x1).2 = fun _ => 1#1) (b : Fin 2) (r : Fin 1000) (k : Fin 4) :
    ∃ a : ℝ, x1 (ix3 b r ⟨k.val, by omega⟩) = (a : EReal) ∧ 0 ≤ a ∧ a ≤ 1024 := by
  have e := congrFun h (ix3 b r k)
  revert e
  unfold fn
  pointwise
  generalize x1 (ix3 b r ⟨k.val, by omega⟩) = x
  intro e
  have both : ∀ p q : Bool, IntOp.andi (BitVec.ofBool p) (BitVec.ofBool q) = 1#1 → p = true ∧ q = true := by decide
  obtain ⟨e0, e1⟩ := both _ _ e
  have h0 : (0 : EReal) ≤ x := of_decide_eq_true e0
  have h1 : (x : EReal) ≤ ((1024 : ℝ) : EReal) := by
    rw [← bits_1024]
    exact of_decide_eq_true e1
  have hx : (x : EReal) = ((EReal.toReal x : ℝ) : EReal) :=
    (EReal.coe_toReal (ne_of_lt (lt_of_le_of_lt h1 (EReal.coe_lt_top _))) (ne_of_gt (lt_of_lt_of_le EReal.bot_lt_zero h0))).symm
  rw [hx] at h0 h1
  exact ⟨_, hx, EReal.coe_nonneg.1 h0, EReal.coe_le_coe_iff.1 h1⟩

end Cert.Pre_rois_in_image.Inputs

end
-- ==== Proof.Final.lean ====
/-
  The two programs' results are equal: the array the kernel leaves is the reference's result on the same arguments, when
  the arguments satisfy the precondition.
-/
module

public import proofs.«01_k».proof.Proof.Equation
public import proofs.«01_k».proof.Proof.RefValue
public import proofs.«01_k».proof.Proof.Inputs

@[expose] public section

set_option maxRecDepth 16384

noncomputable section

namespace Cert.KernelIdeal.Final

open Cert.KernelIdeal Cert.KernelIdeal.Gen Cert.KernelIdeal.Array Cert.RoiAlign
open Idealize.ShloMosaic Idealize.ShloMosaic.TcCoe Idealize.SL.Sem

variable (m : (ℓ : Loc nD τ sig) → Buf (Elt Ideal) ℓ)

/-- The array the kernel leaves in its result is the reference's result on the kernel's arguments. -/
theorem result_eq [Cert.Pre_rois_in_image.Facts] (c : Dev nD)
    (h : (Cert.Pre_rois_in_image.fn (F := Ideal) (m ((c : Thread nD τ).loc main_arg0)) (m ((c : Thread nD τ).loc main_arg1))).1 = (fun _ => 1#1)
      ∧ (Cert.Pre_rois_in_image.fn (F := Ideal) (m ((c : Thread nD τ).loc main_arg0)) (m ((c : Thread nD τ).loc main_arg1))).2 = (fun _ => 1#1)) :
    (dats (F := Ideal) m 0 c).arrAt 4 cfg0.N
      = Cert.ReferenceIdeal.Read.val_main_v189 (F := Ideal) (m ((c : Thread nD τ).loc main_arg0)) (m ((c : Thread nD τ).loc main_arg1)) := by
  rw [final m c]
  funext z
  idx_vars z
  rename' z0 => b, z1 => r, z2 => i, z3 => j, z4 => ch
  have hfeat := Cert.Pre_rois_in_image.Inputs.feature_real _ _ h.1 b
  have hbox := Cert.Pre_rois_in_image.Inputs.corner_real _ _ h.2 b r
  obtain ⟨y1, e0, p0, q0⟩ := hbox 0
  obtain ⟨x1, e1, p1, q1⟩ := hbox 1
  obtain ⟨y2, e2, p2, q2⟩ := hbox 2
  obtain ⟨x2, e3, p3, q3⟩ := hbox 3
  have hy := sample_mem p0 q0 p2 q2 i.isLt
  have hx := sample_mem p1 q1 p3 q3 j.isLt
  have hV : (V m c main_arg1 : Vec Ideal S2x1000x5 .f32) = m ((c : Thread nD τ).loc main_arg1) := V_main_arg1 m c
  let f : ℕ → ℕ → ℝ := fun u v => if huv : u < 64 ∧ v < 64 then
    EReal.toReal ((m ((c : Thread nD τ).loc main_arg0) : Vec Ideal S2x64x64x256 .f32) (ix4 b ⟨u, huv.1⟩ ⟨v, huv.2⟩ ch)) else 0
  have hf : ∀ u v : Fin 64, (m ((c : Thread nD τ).loc main_arg0) : Vec Ideal S2x64x64x256 .f32) (ix4 b u v ch) = ((f u.val v.val : ℝ) : EReal) := fun u v => by
    have hd : f u.val v.val = EReal.toReal ((m ((c : Thread nD τ).loc main_arg0) : Vec Ideal S2x64x64x256 .f32) (ix4 b u v ch)) :=
      dif_pos ⟨u.isLt, v.isLt⟩
    rw [hd]
    exact hfeat u v ch
  refine (Equation.cellSum_real _ _ _ _ b r i j ch f y1 x1 y2 x2
    (fun q => (Tables.features_apply m c b q ch).trans (hf ⟨q.val / 64, by omega⟩ ⟨q.val % 64, by omega⟩))
    ((congrFun hV _).trans e0) ((congrFun hV _).trans e1) ((congrFun hV _).trans e2) ((congrFun hV _).trans e3)
    (Tables.coeff0_apply m c) (Tables.coeff1_apply m c) (Tables.coeff2_apply m c) (Tables.coeff3_apply m c) (Tables.coeff4_apply m c)
    (Tables.grid0_apply m c) (Tables.grid1_apply m c) hy hx).trans ?_
  exact (Cert.ReferenceIdeal.RefValue.value _ _ b r i j ch f y1 x1 y2 x2 hf e0 e1 e2 e3 hy hx).symm

end Cert.KernelIdeal.Final

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Final
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference's frame: its run keeps both arguments, and the program declares no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The kernel and the reference, over the extended reals and on arguments that satisfy the precondition, leave equal
results and keep their arguments. -/
theorem algebraic [Cert.Pre_rois_in_image.Facts] : Cert.algebraic_KernelIdeal_ReferenceIdeal_pre_rois_in_image := by
  intro m g m' g' hpre hargs
  refine ⟨fun c => (Cert.KernelIdeal.Gen.dats (F := Ideal) m 0 c).arrAt 4 Cert.KernelIdeal.cfg0.N,
    Cert.KernelIdeal.Value.run_blocks (F := Ideal) m g, ?_⟩
  refine (θ_run Cert.ReferenceIdeal.defs _ _).mono (fun r h c => ⟨?_, (h c).2⟩) (Cert.ReferenceIdeal.Value.run (F := Ideal) m' g')
  refine ((h c).1.trans (Cert.ReferenceIdeal.Read.val_main_v189_eq (StableHlo.launchContents m' c))).trans ?_
  refine Eq.trans ?_ (Cert.KernelIdeal.Final.result_eq m c (hpre c)).symm
  exact congrArg₂ (Cert.ReferenceIdeal.Read.val_main_v189 (F := Ideal)) (hargs c).1 (hargs c).2

/-- Every claim of the certificate. -/
theorem claim : Cert.Claim :=
  haveI : Cert.Pre_rois_in_image.Facts := Cert.Pre_rois_in_image.Inputs.facts
  ⟨Cert.Kernel.Gen.facts, Cert.KernelIdeal.Gen.facts, Cert.ReferenceIdeal.Gen.facts, Cert.Pre_rois_in_image.Inputs.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    trivial,
    algebraic⟩

end Cert.Proof

end
